-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 4096]⟩ ⟨3, ![8, 512, 4096]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![512, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x4096 : Shape := ⟨3, ![1, 512, 4096]⟩
abbrev S512x512 : Shape := ⟨2, ![512, 512]⟩
abbrev S8x112x512 : Shape := ⟨3, ![8, 112, 512]⟩
abbrev S4x112x512 : Shape := ⟨3, ![4, 112, 512]⟩
abbrev S2x112x512 : Shape := ⟨3, ![2, 112, 512]⟩
abbrev S1x112x512 : Shape := ⟨3, ![1, 112, 512]⟩
abbrev S8x96x512 : Shape := ⟨3, ![8, 96, 512]⟩
abbrev S4x96x512 : Shape := ⟨3, ![4, 96, 512]⟩
abbrev S2x96x512 : Shape := ⟨3, ![2, 96, 512]⟩
abbrev S1x96x512 : Shape := ⟨3, ![1, 96, 512]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩
abbrev S6x3 : Shape := ⟨2, ![6, 3]⟩
abbrev S_ : Shape := ⟨0, ![]⟩
abbrev S112x512 : Shape := ⟨2, ![112, 512]⟩
abbrev S1x1 : Shape := ⟨2, ![1, 1]⟩
abbrev S96x512 : Shape := ⟨2, ![96, 512]⟩
abbrev S64x512 : Shape := ⟨2, ![64, 512]⟩

abbrev nBuf : Space → Nat
  | .hbm => 2
  | .vmem => 26
  | .smem => 0
  | _ => 0

abbrev bufTy : (tb : Table) → Fin (tcTables nBuf tb) → BufTy
  | .hbm, ⟨0, _⟩ => ⟨S1x512x4096, .bf16⟩
  | .hbm, ⟨1, _⟩ => ⟨S512x512, .bf16⟩
  | .local _ .vmem, ⟨0, _⟩ => ⟨S1x512x4096, .bf16⟩
  | .local _ .vmem, ⟨1, _⟩ => ⟨S512x512, .bf16⟩
  | .local _ .vmem, ⟨2, _⟩ => ⟨S8x112x512, .bf16⟩
  | .local _ .vmem, ⟨3, _⟩ => ⟨S4x112x512, .bf16⟩
  | .local _ .vmem, ⟨4, _⟩ => ⟨S2x112x512, .bf16⟩
  | .local _ .vmem, ⟨5, _⟩ => ⟨S1x112x512, .bf16⟩
  | .local _ .vmem, ⟨6, _⟩ => ⟨S8x112x512, .bf16⟩
  | .local _ .vmem, ⟨7, _⟩ => ⟨S4x112x512, .bf16⟩
  | .local _ .vmem, ⟨8, _⟩ => ⟨S2x112x512, .bf16⟩
  | .local _ .vmem, ⟨9, _⟩ => ⟨S1x112x512, .bf16⟩
  | .local _ .vmem, ⟨10, _⟩ => ⟨S8x96x512, .bf16⟩
  | .local _ .vmem, ⟨11, _⟩ => ⟨S4x96x512, .bf16⟩
  | .local _ .vmem, ⟨12, _⟩ => ⟨S2x96x512, .bf16⟩
  | .local _ .vmem, ⟨13, _⟩ => ⟨S1x96x512, .bf16⟩
  | .local _ .vmem, ⟨14, _⟩ => ⟨S8x64x512, .bf16⟩
  | .local _ .vmem, ⟨15, _⟩ => ⟨S4x64x512, .bf16⟩
  | .local _ .vmem, ⟨16, _⟩ => ⟨S2x64x512, .bf16⟩
  | .local _ .vmem, ⟨17, _⟩ => ⟨S1x64x512, .bf16⟩
  | .local _ .vmem, ⟨18, _⟩ => ⟨S8x64x512, .bf16⟩
  | .local _ .vmem, ⟨19, _⟩ => ⟨S4x64x512, .bf16⟩
  | .local _ .vmem, ⟨20, _⟩ => ⟨S2x64x512, .bf16⟩
  | .local _ .vmem, ⟨21, _⟩ => ⟨S1x64x512, .bf16⟩
  | .local _ .vmem, ⟨22, _⟩ => ⟨S8x64x512, .bf16⟩
  | .local _ .vmem, ⟨23, _⟩ => ⟨S4x64x512, .bf16⟩
  | .local _ .vmem, ⟨24, _⟩ => ⟨S2x64x512, .bf16⟩
  | .local _ .vmem, ⟨25, _⟩ => ⟨S1x64x512, .bf16⟩
  | _, _ => ⟨S1x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_scratch17 : Ref sig .tc := ⟨.vmem, 19, rfl⟩
abbrev cc0_scratch18 : Ref sig .tc := ⟨.vmem, 20, rfl⟩
abbrev cc0_scratch19 : Ref sig .tc := ⟨.vmem, 21, rfl⟩
abbrev cc0_scratch20 : Ref sig .tc := ⟨.vmem, 22, rfl⟩
abbrev cc0_scratch21 : Ref sig .tc := ⟨.vmem, 23, rfl⟩
abbrev cc0_scratch22 : Ref sig .tc := ⟨.vmem, 24, rfl⟩
abbrev cc0_scratch23 : Ref sig .tc := ⟨.vmem, 25, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v12 : BitVec 32 := Scalar.xori v2 c1_i32_6
  let c1_i32_8 : BitVec 32 := 1#32
  let v13 : BitVec 32 := Scalar.muli v12 c1_i32_8
  let v14 : BitVec 32 := Scalar.addi c0_i32 v13
  v14.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_10 : BitVec 32 := 1#32
  let v16 : BitVec 32 := Scalar.muli v15 c1_i32_10
  let v17 : BitVec 32 := Scalar.addi c0_i32_11 v16
  v17.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v18 : BitVec 32 := Scalar.xori v2 c4_i32
  let c1_i32_13 : BitVec 32 := 1#32
  let v19 : BitVec 32 := Scalar.muli v18 c1_i32_13
  let v20 : BitVec 32 := Scalar.addi c0_i32_14 v19
  v20.toNat
def k0_off1 (d0 : Dev nD) : Fin 3 → Nat :=
  let c0_i32_24 : BitVec 32 := 0#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v29 : BitVec 32 := Scalar.subi c1_i32_22 v6
  let c4_i32_23 : BitVec 32 := 4#32
  let v30 : BitVec 32 := Scalar.muli v29 c4_i32_23
  let v31 : BitVec 32 := Scalar.addi c0_i32_24 v30
  let c0_i32_32 : BitVec 32 := 0#32
  let c0_i32_33 : BitVec 32 := 0#32
  ![v31.toNat, 0, 0]
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v32 : BitVec 32 := Scalar.xori v2 c1_i32_25
  let c1_i32_30 : BitVec 32 := 1#32
  let v33 : BitVec 32 := Scalar.muli v32 c1_i32_30
  let v34 : BitVec 32 := Scalar.addi c0_i32_31 v33
  v34.toNat
def k0_off2 (d0 : Dev nD) : Fin 3 → Nat :=
  let c0_i32_42 : BitVec 32 := 0#32
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let v48 : BitVec 32 := Scalar.subi c1_i32_40 v8
  let c4_i32_41 : BitVec 32 := 4#32
  let v49 : BitVec 32 := Scalar.muli v48 c4_i32_41
  let v50 : BitVec 32 := Scalar.addi c0_i32_42 v49
  let c0_i32_50 : BitVec 32 := 0#32
  let c0_i32_51 : BitVec 32 := 0#32
  ![v50.toNat, 0, 0]
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_43 : BitVec 32 := 3#32
  let v51 : BitVec 32 := Scalar.xori v2 c3_i32_43
  let c1_i32_48 : BitVec 32 := 1#32
  let v52 : BitVec 32 := Scalar.muli v51 c1_i32_48
  let v53 : BitVec 32 := Scalar.addi c0_i32_49 v52
  v53.toNat
def k0_off3 (d0 : Dev nD) : Fin 3 → Nat :=
  let c0_i32_60 : BitVec 32 := 0#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let v67 : BitVec 32 := Scalar.subi c1_i32_58 v10
  let c4_i32_59 : BitVec 32 := 4#32
  let v68 : BitVec 32 := Scalar.muli v67 c4_i32_59
  let v69 : BitVec 32 := Scalar.addi c0_i32_60 v68
  let c0_i32_68 : BitVec 32 := 0#32
  let c0_i32_69 : BitVec 32 := 0#32
  ![v69.toNat, 0, 0]
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_61 : BitVec 32 := 4#32
  let v70 : BitVec 32 := Scalar.xori v2 c4_i32_61
  let c1_i32_66 : BitVec 32 := 1#32
  let v71 : BitVec 32 := Scalar.muli v70 c1_i32_66
  let v72 : BitVec 32 := Scalar.addi c0_i32_67 v71
  v72.toNat
def k0_off4 (d0 : Dev nD) : Fin 3 → Nat :=
  let c0_i32_78 : BitVec 32 := 0#32
  let c1_i32_76 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v86 : BitVec 32 := Scalar.subi c1_i32_76 v6
  let c4_i32_77 : BitVec 32 := 4#32
  let v87 : BitVec 32 := Scalar.muli v86 c4_i32_77
  let v88 : BitVec 32 := Scalar.addi c0_i32_78 v87
  let c0_i32_86 : BitVec 32 := 0#32
  let c0_i32_87 : BitVec 32 := 0#32
  ![v88.toNat, 0, 0]
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let v89 : BitVec 32 := Scalar.xori v2 c1_i32_79
  let c1_i32_84 : BitVec 32 := 1#32
  let v90 : BitVec 32 := Scalar.muli v89 c1_i32_84
  let v91 : BitVec 32 := Scalar.addi c0_i32_85 v90
  v91.toNat
def k0_off5 (d0 : Dev nD) (c1_i32_3 : BitVec 32) : Fin 3 → Nat :=
  let c0_i32_96 : BitVec 32 := 0#32
  let c1_i32_94 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v7 : BitVec 32 := Scalar.shrsi v2 c1_i32_3
  let c1_i32_4 : BitVec 32 := 1#32
  let v8 : BitVec 32 := Scalar.andi v7 c1_i32_4
  let v105 : BitVec 32 := Scalar.subi c1_i32_94 v8
  let c4_i32_95 : BitVec 32 := 4#32
  let v106 : BitVec 32 := Scalar.muli v105 c4_i32_95
  let v107 : BitVec 32 := Scalar.addi c0_i32_96 v106
  let c0_i32_104 : BitVec 32 := 0#32
  let c0_i32_105 : BitVec 32 := 0#32
  ![v107.toNat, 0, 0]
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_97 : BitVec 32 := 3#32
  let v108 : BitVec 32 := Scalar.xori v2 c3_i32_97
  let c1_i32_102 : BitVec 32 := 1#32
  let v109 : BitVec 32 := Scalar.muli v108 c1_i32_102
  let v110 : BitVec 32 := Scalar.addi c0_i32_103 v109
  v110.toNat
def k0_dev9 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_115 : BitVec 32 := 4#32
  let v127 : BitVec 32 := Scalar.xori v2 c4_i32_115
  let c1_i32_119 : BitVec 32 := 1#32
  let v128 : BitVec 32 := Scalar.muli v127 c1_i32_119
  let v129 : BitVec 32 := Scalar.addi c0_i32_120 v128
  v129.toNat
def k0_off6 (d0 : Dev nD) : Fin 3 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_20 : BitVec 32 := 4#32
  let v27 : BitVec 32 := Scalar.muli v6 c4_i32_20
  let v28 : BitVec 32 := Scalar.addi c0_i32_21 v27
  let c1_i32_162 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v179 : BitVec 32 := Scalar.subi c1_i32_162 v8
  let c2_i32_163 : BitVec 32 := 2#32
  let v180 : BitVec 32 := Scalar.muli v179 c2_i32_163
  let v181 : BitVec 32 := Scalar.addi v28 v180
  let v182 : Index := Scalar.indexCast v181
  let c0 : Index := 0#32
  let c0_164 : Index := 0#32
  ![v182.toNat, 0, 0]
def k0_off7 (d0 : Dev nD) (c1_i32_3 : BitVec 32) : Fin 3 → Nat :=
  let c1_i32_162 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v7 : BitVec 32 := Scalar.shrsi v2 c1_i32_3
  let c1_i32_4 : BitVec 32 := 1#32
  let v8 : BitVec 32 := Scalar.andi v7 c1_i32_4
  let v179 : BitVec 32 := Scalar.subi c1_i32_162 v8
  let c2_i32_163 : BitVec 32 := 2#32
  let v180 : BitVec 32 := Scalar.muli v179 c2_i32_163
  let v184 : Index := Scalar.indexCast v180
  let c0_165 : Index := 0#32
  let c0_166 : Index := 0#32
  ![v184.toNat, 0, 0]
def k0_off8 (d0 : Dev nD) : Fin 3 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_20 : BitVec 32 := 4#32
  let v27 : BitVec 32 := Scalar.muli v6 c4_i32_20
  let v28 : BitVec 32 := Scalar.addi c0_i32_21 v27
  let c1_i32_170 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v194 : BitVec 32 := Scalar.subi c1_i32_170 v8
  let c2_i32_171 : BitVec 32 := 2#32
  let v195 : BitVec 32 := Scalar.muli v194 c2_i32_171
  let v196 : BitVec 32 := Scalar.addi v28 v195
  let c0_i32_179 : BitVec 32 := 0#32
  let c0_i32_180 : BitVec 32 := 0#32
  ![v196.toNat, 0, 0]
def k0_dev10 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_172 : BitVec 32 := 3#32
  let v197 : BitVec 32 := Scalar.xori v2 c3_i32_172
  let c1_i32_177 : BitVec 32 := 1#32
  let v198 : BitVec 32 := Scalar.muli v197 c1_i32_177
  let v199 : BitVec 32 := Scalar.addi c0_i32_178 v198
  v199.toNat
def k0_off9 (d0 : Dev nD) : Fin 3 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_20 : BitVec 32 := 4#32
  let v27 : BitVec 32 := Scalar.muli v6 c4_i32_20
  let v28 : BitVec 32 := Scalar.addi c0_i32_21 v27
  let c1_i32_3 : BitVec 32 := 1#32
  let v7 : BitVec 32 := Scalar.shrsi v2 c1_i32_3
  let c1_i32_4 : BitVec 32 := 1#32
  let v8 : BitVec 32 := Scalar.andi v7 c1_i32_4
  let c2_i32_181 : BitVec 32 := 2#32
  let v205 : BitVec 32 := Scalar.muli v8 c2_i32_181
  let v206 : BitVec 32 := Scalar.addi v28 v205
  let v207 : Index := Scalar.indexCast v206
  let c0_182 : Index := 0#32
  let c0_183 : Index := 0#32
  ![v207.toNat, 0, 0]
def k0_off10 (d0 : Dev nD) (c1_i32_3 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v7 : BitVec 32 := Scalar.shrsi v2 c1_i32_3
  let c1_i32_4 : BitVec 32 := 1#32
  let v8 : BitVec 32 := Scalar.andi v7 c1_i32_4
  let c2_i32_181 : BitVec 32 := 2#32
  let v205 : BitVec 32 := Scalar.muli v8 c2_i32_181
  let v209 : Index := Scalar.indexCast v205
  let c0_184 : Index := 0#32
  let c0_185 : Index := 0#32
  ![v209.toNat, 0, 0]
def k0_off11 (d0 : Dev nD) : Fin 3 → Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_38 : BitVec 32 := 4#32
  let v46 : BitVec 32 := Scalar.muli v8 c4_i32_38
  let v47 : BitVec 32 := Scalar.addi c0_i32_39 v46
  let c1_i32_203 : BitVec 32 := 1#32
  let c2_i32 : BitVec 32 := 2#32
  let v9 : BitVec 32 := Scalar.shrsi v2 c2_i32
  let c1_i32_5 : BitVec 32 := 1#32
  let v10 : BitVec 32 := Scalar.andi v9 c1_i32_5
  let v225 : BitVec 32 := Scalar.subi c1_i32_203 v10
  let c2_i32_204 : BitVec 32 := 2#32
  let v226 : BitVec 32 := Scalar.muli v225 c2_i32_204
  let v227 : BitVec 32 := Scalar.addi v47 v226
  let v228 : Index := Scalar.indexCast v227
  let c0_205 : Index := 0#32
  let c0_206 : Index := 0#32
  ![v228.toNat, 0, 0]
def k0_off12 (d0 : Dev nD) : Fin 3 → Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_38 : BitVec 32 := 4#32
  let v46 : BitVec 32 := Scalar.muli v8 c4_i32_38
  let v47 : BitVec 32 := Scalar.addi c0_i32_39 v46
  let c1_i32_212 : BitVec 32 := 1#32
  let c2_i32 : BitVec 32 := 2#32
  let v9 : BitVec 32 := Scalar.shrsi v2 c2_i32
  let c1_i32_5 : BitVec 32 := 1#32
  let v10 : BitVec 32 := Scalar.andi v9 c1_i32_5
  let v240 : BitVec 32 := Scalar.subi c1_i32_212 v10
  let c2_i32_213 : BitVec 32 := 2#32
  let v241 : BitVec 32 := Scalar.muli v240 c2_i32_213
  let v242 : BitVec 32 := Scalar.addi v47 v241
  let c0_i32_221 : BitVec 32 := 0#32
  let c0_i32_222 : BitVec 32 := 0#32
  ![v242.toNat, 0, 0]
def k0_dev11 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_214 : BitVec 32 := 4#32
  let v243 : BitVec 32 := Scalar.xori v2 c4_i32_214
  let c1_i32_219 : BitVec 32 := 1#32
  let v244 : BitVec 32 := Scalar.muli v243 c1_i32_219
  let v245 : BitVec 32 := Scalar.addi c0_i32_220 v244
  v245.toNat
def k0_off13 (d0 : Dev nD) : Fin 3 → Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_38 : BitVec 32 := 4#32
  let v46 : BitVec 32 := Scalar.muli v8 c4_i32_38
  let v47 : BitVec 32 := Scalar.addi c0_i32_39 v46
  let c2_i32 : BitVec 32 := 2#32
  let v9 : BitVec 32 := Scalar.shrsi v2 c2_i32
  let c1_i32_5 : BitVec 32 := 1#32
  let v10 : BitVec 32 := Scalar.andi v9 c1_i32_5
  let c2_i32_223 : BitVec 32 := 2#32
  let v251 : BitVec 32 := Scalar.muli v10 c2_i32_223
  let v252 : BitVec 32 := Scalar.addi v47 v251
  let v253 : Index := Scalar.indexCast v252
  let c0_224 : Index := 0#32
  let c0_225 : Index := 0#32
  ![v253.toNat, 0, 0]
def k0_off14 (d0 : Dev nD) : Fin 3 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_56 : BitVec 32 := 4#32
  let v65 : BitVec 32 := Scalar.muli v10 c4_i32_56
  let v66 : BitVec 32 := Scalar.addi c0_i32_57 v65
  let c1_i32_245 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v271 : BitVec 32 := Scalar.subi c1_i32_245 v6
  let c2_i32_246 : BitVec 32 := 2#32
  let v272 : BitVec 32 := Scalar.muli v271 c2_i32_246
  let v273 : BitVec 32 := Scalar.addi v66 v272
  let v274 : Index := Scalar.indexCast v273
  let c0_247 : Index := 0#32
  let c0_248 : Index := 0#32
  ![v274.toNat, 0, 0]
def k0_off15 (d0 : Dev nD) : Fin 3 → Nat :=
  let c1_i32_245 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v271 : BitVec 32 := Scalar.subi c1_i32_245 v6
  let c2_i32_246 : BitVec 32 := 2#32
  let v272 : BitVec 32 := Scalar.muli v271 c2_i32_246
  let v276 : Index := Scalar.indexCast v272
  let c0_249 : Index := 0#32
  let c0_250 : Index := 0#32
  ![v276.toNat, 0, 0]
def k0_off16 (d0 : Dev nD) : Fin 3 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_56 : BitVec 32 := 4#32
  let v65 : BitVec 32 := Scalar.muli v10 c4_i32_56
  let v66 : BitVec 32 := Scalar.addi c0_i32_57 v65
  let c1_i32_254 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v286 : BitVec 32 := Scalar.subi c1_i32_254 v6
  let c2_i32_255 : BitVec 32 := 2#32
  let v287 : BitVec 32 := Scalar.muli v286 c2_i32_255
  let v288 : BitVec 32 := Scalar.addi v66 v287
  let c0_i32_263 : BitVec 32 := 0#32
  let c0_i32_264 : BitVec 32 := 0#32
  ![v288.toNat, 0, 0]
def k0_dev12 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_256 : BitVec 32 := 1#32
  let v289 : BitVec 32 := Scalar.xori v2 c1_i32_256
  let c1_i32_261 : BitVec 32 := 1#32
  let v290 : BitVec 32 := Scalar.muli v289 c1_i32_261
  let v291 : BitVec 32 := Scalar.addi c0_i32_262 v290
  v291.toNat
def k0_off17 (d0 : Dev nD) : Fin 3 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_56 : BitVec 32 := 4#32
  let v65 : BitVec 32 := Scalar.muli v10 c4_i32_56
  let v66 : BitVec 32 := Scalar.addi c0_i32_57 v65
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c2_i32_265 : BitVec 32 := 2#32
  let v297 : BitVec 32 := Scalar.muli v6 c2_i32_265
  let v298 : BitVec 32 := Scalar.addi v66 v297
  let v299 : Index := Scalar.indexCast v298
  let c0_266 : Index := 0#32
  let c0_267 : Index := 0#32
  ![v299.toNat, 0, 0]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c2_i32_265 : BitVec 32 := 2#32
  let v297 : BitVec 32 := Scalar.muli v6 c2_i32_265
  let v301 : Index := Scalar.indexCast v297
  let c0_268 : Index := 0#32
  let c0_269 : Index := 0#32
  ![v301.toNat, 0, 0]
def k0_off19 (d0 : Dev nD) : Fin 3 → Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_74 : BitVec 32 := 4#32
  let v84 : BitVec 32 := Scalar.muli v6 c4_i32_74
  let v85 : BitVec 32 := Scalar.addi c0_i32_75 v84
  let c1_i32_287 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v317 : BitVec 32 := Scalar.subi c1_i32_287 v8
  let c2_i32_288 : BitVec 32 := 2#32
  let v318 : BitVec 32 := Scalar.muli v317 c2_i32_288
  let v319 : BitVec 32 := Scalar.addi v85 v318
  let v320 : Index := Scalar.indexCast v319
  let c0_289 : Index := 0#32
  let c0_290 : Index := 0#32
  ![v320.toNat, 0, 0]
def k0_off20 (d0 : Dev nD) (c1_i32_3 : BitVec 32) : Fin 3 → Nat :=
  let c1_i32_287 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v7 : BitVec 32 := Scalar.shrsi v2 c1_i32_3
  let c1_i32_4 : BitVec 32 := 1#32
  let v8 : BitVec 32 := Scalar.andi v7 c1_i32_4
  let v317 : BitVec 32 := Scalar.subi c1_i32_287 v8
  let c2_i32_288 : BitVec 32 := 2#32
  let v318 : BitVec 32 := Scalar.muli v317 c2_i32_288
  let v322 : Index := Scalar.indexCast v318
  let c0_291 : Index := 0#32
  let c0_292 : Index := 0#32
  ![v322.toNat, 0, 0]
def k0_off21 (d0 : Dev nD) : Fin 3 → Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_74 : BitVec 32 := 4#32
  let v84 : BitVec 32 := Scalar.muli v6 c4_i32_74
  let v85 : BitVec 32 := Scalar.addi c0_i32_75 v84
  let c1_i32_296 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v332 : BitVec 32 := Scalar.subi c1_i32_296 v8
  let c2_i32_297 : BitVec 32 := 2#32
  let v333 : BitVec 32 := Scalar.muli v332 c2_i32_297
  let v334 : BitVec 32 := Scalar.addi v85 v333
  let c0_i32_305 : BitVec 32 := 0#32
  let c0_i32_306 : BitVec 32 := 0#32
  ![v334.toNat, 0, 0]
def k0_dev13 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_298 : BitVec 32 := 3#32
  let v335 : BitVec 32 := Scalar.xori v2 c3_i32_298
  let c1_i32_303 : BitVec 32 := 1#32
  let v336 : BitVec 32 := Scalar.muli v335 c1_i32_303
  let v337 : BitVec 32 := Scalar.addi c0_i32_304 v336
  v337.toNat
def k0_off22 (d0 : Dev nD) : Fin 3 → Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_74 : BitVec 32 := 4#32
  let v84 : BitVec 32 := Scalar.muli v6 c4_i32_74
  let v85 : BitVec 32 := Scalar.addi c0_i32_75 v84
  let c1_i32_3 : BitVec 32 := 1#32
  let v7 : BitVec 32 := Scalar.shrsi v2 c1_i32_3
  let c1_i32_4 : BitVec 32 := 1#32
  let v8 : BitVec 32 := Scalar.andi v7 c1_i32_4
  let c2_i32_307 : BitVec 32 := 2#32
  let v343 : BitVec 32 := Scalar.muli v8 c2_i32_307
  let v344 : BitVec 32 := Scalar.addi v85 v343
  let v345 : Index := Scalar.indexCast v344
  let c0_308 : Index := 0#32
  let c0_309 : Index := 0#32
  ![v345.toNat, 0, 0]
def k0_off23 (d0 : Dev nD) (c1_i32_3 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v7 : BitVec 32 := Scalar.shrsi v2 c1_i32_3
  let c1_i32_4 : BitVec 32 := 1#32
  let v8 : BitVec 32 := Scalar.andi v7 c1_i32_4
  let c2_i32_307 : BitVec 32 := 2#32
  let v343 : BitVec 32 := Scalar.muli v8 c2_i32_307
  let v347 : Index := Scalar.indexCast v343
  let c0_310 : Index := 0#32
  let c0_311 : Index := 0#32
  ![v347.toNat, 0, 0]
def k0_off24 (d0 : Dev nD) : Fin 3 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_92 : BitVec 32 := 4#32
  let v103 : BitVec 32 := Scalar.muli v8 c4_i32_92
  let v104 : BitVec 32 := Scalar.addi c0_i32_93 v103
  let c1_i32_329 : BitVec 32 := 1#32
  let c2_i32 : BitVec 32 := 2#32
  let v9 : BitVec 32 := Scalar.shrsi v2 c2_i32
  let c1_i32_5 : BitVec 32 := 1#32
  let v10 : BitVec 32 := Scalar.andi v9 c1_i32_5
  let v363 : BitVec 32 := Scalar.subi c1_i32_329 v10
  let c2_i32_330 : BitVec 32 := 2#32
  let v364 : BitVec 32 := Scalar.muli v363 c2_i32_330
  let v365 : BitVec 32 := Scalar.addi v104 v364
  let v366 : Index := Scalar.indexCast v365
  let c0_331 : Index := 0#32
  let c0_332 : Index := 0#32
  ![v366.toNat, 0, 0]
def k0_off25 (d0 : Dev nD) : Fin 3 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_92 : BitVec 32 := 4#32
  let v103 : BitVec 32 := Scalar.muli v8 c4_i32_92
  let v104 : BitVec 32 := Scalar.addi c0_i32_93 v103
  let c1_i32_338 : BitVec 32 := 1#32
  let c2_i32 : BitVec 32 := 2#32
  let v9 : BitVec 32 := Scalar.shrsi v2 c2_i32
  let c1_i32_5 : BitVec 32 := 1#32
  let v10 : BitVec 32 := Scalar.andi v9 c1_i32_5
  let v378 : BitVec 32 := Scalar.subi c1_i32_338 v10
  let c2_i32_339 : BitVec 32 := 2#32
  let v379 : BitVec 32 := Scalar.muli v378 c2_i32_339
  let v380 : BitVec 32 := Scalar.addi v104 v379
  let c0_i32_347 : BitVec 32 := 0#32
  let c0_i32_348 : BitVec 32 := 0#32
  ![v380.toNat, 0, 0]
def k0_dev14 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_340 : BitVec 32 := 4#32
  let v381 : BitVec 32 := Scalar.xori v2 c4_i32_340
  let c1_i32_345 : BitVec 32 := 1#32
  let v382 : BitVec 32 := Scalar.muli v381 c1_i32_345
  let v383 : BitVec 32 := Scalar.addi c0_i32_346 v382
  v383.toNat
def k0_off26 (d0 : Dev nD) : Fin 3 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_92 : BitVec 32 := 4#32
  let v103 : BitVec 32 := Scalar.muli v8 c4_i32_92
  let v104 : BitVec 32 := Scalar.addi c0_i32_93 v103
  let c2_i32 : BitVec 32 := 2#32
  let v9 : BitVec 32 := Scalar.shrsi v2 c2_i32
  let c1_i32_5 : BitVec 32 := 1#32
  let v10 : BitVec 32 := Scalar.andi v9 c1_i32_5
  let c2_i32_349 : BitVec 32 := 2#32
  let v389 : BitVec 32 := Scalar.muli v10 c2_i32_349
  let v390 : BitVec 32 := Scalar.addi v104 v389
  let v391 : Index := Scalar.indexCast v390
  let c0_350 : Index := 0#32
  let c0_351 : Index := 0#32
  ![v391.toNat, 0, 0]
def k0_off27 (d0 : Dev nD) : Fin 3 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_110 : BitVec 32 := 4#32
  let v122 : BitVec 32 := Scalar.muli v10 c4_i32_110
  let v123 : BitVec 32 := Scalar.addi c0_i32_111 v122
  let c1_i32_371 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v409 : BitVec 32 := Scalar.subi c1_i32_371 v6
  let c2_i32_372 : BitVec 32 := 2#32
  let v410 : BitVec 32 := Scalar.muli v409 c2_i32_372
  let v411 : BitVec 32 := Scalar.addi v123 v410
  let v412 : Index := Scalar.indexCast v411
  let c0_373 : Index := 0#32
  let c0_374 : Index := 0#32
  ![v412.toNat, 0, 0]
def k0_off28 (d0 : Dev nD) : Fin 3 → Nat :=
  let c1_i32_371 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v409 : BitVec 32 := Scalar.subi c1_i32_371 v6
  let c2_i32_372 : BitVec 32 := 2#32
  let v410 : BitVec 32 := Scalar.muli v409 c2_i32_372
  let v414 : Index := Scalar.indexCast v410
  let c0_375 : Index := 0#32
  let c0_376 : Index := 0#32
  ![v414.toNat, 0, 0]
def k0_off29 (d0 : Dev nD) : Fin 3 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_110 : BitVec 32 := 4#32
  let v122 : BitVec 32 := Scalar.muli v10 c4_i32_110
  let v123 : BitVec 32 := Scalar.addi c0_i32_111 v122
  let c1_i32_380 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v424 : BitVec 32 := Scalar.subi c1_i32_380 v6
  let c2_i32_381 : BitVec 32 := 2#32
  let v425 : BitVec 32 := Scalar.muli v424 c2_i32_381
  let v426 : BitVec 32 := Scalar.addi v123 v425
  let c0_i32_389 : BitVec 32 := 0#32
  let c0_i32_390 : BitVec 32 := 0#32
  ![v426.toNat, 0, 0]
def k0_dev15 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_382 : BitVec 32 := 1#32
  let v427 : BitVec 32 := Scalar.xori v2 c1_i32_382
  let c1_i32_387 : BitVec 32 := 1#32
  let v428 : BitVec 32 := Scalar.muli v427 c1_i32_387
  let v429 : BitVec 32 := Scalar.addi c0_i32_388 v428
  v429.toNat
def k0_off30 (d0 : Dev nD) : Fin 3 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_110 : BitVec 32 := 4#32
  let v122 : BitVec 32 := Scalar.muli v10 c4_i32_110
  let v123 : BitVec 32 := Scalar.addi c0_i32_111 v122
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c2_i32_391 : BitVec 32 := 2#32
  let v435 : BitVec 32 := Scalar.muli v6 c2_i32_391
  let v436 : BitVec 32 := Scalar.addi v123 v435
  let v437 : Index := Scalar.indexCast v436
  let c0_392 : Index := 0#32
  let c0_393 : Index := 0#32
  ![v437.toNat, 0, 0]
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c2_i32_391 : BitVec 32 := 2#32
  let v435 : BitVec 32 := Scalar.muli v6 c2_i32_391
  let v439 : Index := Scalar.indexCast v435
  let c0_394 : Index := 0#32
  let c0_395 : Index := 0#32
  ![v439.toNat, 0, 0]
def k0_off32 (d0 : Dev nD) : Fin 3 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_20 : BitVec 32 := 4#32
  let v27 : BitVec 32 := Scalar.muli v6 c4_i32_20
  let v28 : BitVec 32 := Scalar.addi c0_i32_21 v27
  let c1_i32_3 : BitVec 32 := 1#32
  let v7 : BitVec 32 := Scalar.shrsi v2 c1_i32_3
  let c1_i32_4 : BitVec 32 := 1#32
  let v8 : BitVec 32 := Scalar.andi v7 c1_i32_4
  let c2_i32_169 : BitVec 32 := 2#32
  let v192 : BitVec 32 := Scalar.muli v8 c2_i32_169
  let v193 : BitVec 32 := Scalar.addi v28 v192
  let c1_i32_413 : BitVec 32 := 1#32
  let c2_i32 : BitVec 32 := 2#32
  let v9 : BitVec 32 := Scalar.shrsi v2 c2_i32
  let c1_i32_5 : BitVec 32 := 1#32
  let v10 : BitVec 32 := Scalar.andi v9 c1_i32_5
  let v455 : BitVec 32 := Scalar.subi c1_i32_413 v10
  let c1_i32_414 : BitVec 32 := 1#32
  let v456 : BitVec 32 := Scalar.muli v455 c1_i32_414
  let v457 : BitVec 32 := Scalar.addi v193 v456
  let v458 : Index := Scalar.indexCast v457
  let c0_415 : Index := 0#32
  let c0_416 : Index := 0#32
  ![v458.toNat, 0, 0]
def k0_off33 (d0 : Dev nD) : Fin 3 → Nat :=
  let c1_i32_413 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let v455 : BitVec 32 := Scalar.subi c1_i32_413 v10
  let c1_i32_414 : BitVec 32 := 1#32
  let v456 : BitVec 32 := Scalar.muli v455 c1_i32_414
  let v460 : Index := Scalar.indexCast v456
  let c0_417 : Index := 0#32
  let c0_418 : Index := 0#32
  ![v460.toNat, 0, 0]
def k0_off34 (d0 : Dev nD) : Fin 3 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_20 : BitVec 32 := 4#32
  let v27 : BitVec 32 := Scalar.muli v6 c4_i32_20
  let v28 : BitVec 32 := Scalar.addi c0_i32_21 v27
  let c1_i32_3 : BitVec 32 := 1#32
  let v7 : BitVec 32 := Scalar.shrsi v2 c1_i32_3
  let c1_i32_4 : BitVec 32 := 1#32
  let v8 : BitVec 32 := Scalar.andi v7 c1_i32_4
  let c2_i32_169 : BitVec 32 := 2#32
  let v192 : BitVec 32 := Scalar.muli v8 c2_i32_169
  let v193 : BitVec 32 := Scalar.addi v28 v192
  let c1_i32_422 : BitVec 32 := 1#32
  let c2_i32 : BitVec 32 := 2#32
  let v9 : BitVec 32 := Scalar.shrsi v2 c2_i32
  let c1_i32_5 : BitVec 32 := 1#32
  let v10 : BitVec 32 := Scalar.andi v9 c1_i32_5
  let v470 : BitVec 32 := Scalar.subi c1_i32_422 v10
  let c1_i32_423 : BitVec 32 := 1#32
  let v471 : BitVec 32 := Scalar.muli v470 c1_i32_423
  let v472 : BitVec 32 := Scalar.addi v193 v471
  let c0_i32_431 : BitVec 32 := 0#32
  let c0_i32_432 : BitVec 32 := 0#32
  ![v472.toNat, 0, 0]
def k0_dev16 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_424 : BitVec 32 := 4#32
  let v473 : BitVec 32 := Scalar.xori v2 c4_i32_424
  let c1_i32_429 : BitVec 32 := 1#32
  let v474 : BitVec 32 := Scalar.muli v473 c1_i32_429
  let v475 : BitVec 32 := Scalar.addi c0_i32_430 v474
  v475.toNat
def k0_off35 (d0 : Dev nD) : Fin 3 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_20 : BitVec 32 := 4#32
  let v27 : BitVec 32 := Scalar.muli v6 c4_i32_20
  let v28 : BitVec 32 := Scalar.addi c0_i32_21 v27
  let c1_i32_3 : BitVec 32 := 1#32
  let v7 : BitVec 32 := Scalar.shrsi v2 c1_i32_3
  let c1_i32_4 : BitVec 32 := 1#32
  let v8 : BitVec 32 := Scalar.andi v7 c1_i32_4
  let c2_i32_169 : BitVec 32 := 2#32
  let v192 : BitVec 32 := Scalar.muli v8 c2_i32_169
  let v193 : BitVec 32 := Scalar.addi v28 v192
  let c2_i32 : BitVec 32 := 2#32
  let v9 : BitVec 32 := Scalar.shrsi v2 c2_i32
  let c1_i32_5 : BitVec 32 := 1#32
  let v10 : BitVec 32 := Scalar.andi v9 c1_i32_5
  let c1_i32_433 : BitVec 32 := 1#32
  let v481 : BitVec 32 := Scalar.muli v10 c1_i32_433
  let v482 : BitVec 32 := Scalar.addi v193 v481
  let v483 : Index := Scalar.indexCast v482
  let c0_434 : Index := 0#32
  let c0_435 : Index := 0#32
  ![v483.toNat, 0, 0]
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c1_i32_433 : BitVec 32 := 1#32
  let v481 : BitVec 32 := Scalar.muli v10 c1_i32_433
  let v485 : Index := Scalar.indexCast v481
  let c0_436 : Index := 0#32
  let c0_437 : Index := 0#32
  ![v485.toNat, 0, 0]
def k0_off37 (d0 : Dev nD) : Fin 3 → Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_38 : BitVec 32 := 4#32
  let v46 : BitVec 32 := Scalar.muli v8 c4_i32_38
  let v47 : BitVec 32 := Scalar.addi c0_i32_39 v46
  let c2_i32 : BitVec 32 := 2#32
  let v9 : BitVec 32 := Scalar.shrsi v2 c2_i32
  let c1_i32_5 : BitVec 32 := 1#32
  let v10 : BitVec 32 := Scalar.andi v9 c1_i32_5
  let c2_i32_211 : BitVec 32 := 2#32
  let v238 : BitVec 32 := Scalar.muli v10 c2_i32_211
  let v239 : BitVec 32 := Scalar.addi v47 v238
  let c1_i32_455 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v501 : BitVec 32 := Scalar.subi c1_i32_455 v6
  let c1_i32_456 : BitVec 32 := 1#32
  let v502 : BitVec 32 := Scalar.muli v501 c1_i32_456
  let v503 : BitVec 32 := Scalar.addi v239 v502
  let v504 : Index := Scalar.indexCast v503
  let c0_457 : Index := 0#32
  let c0_458 : Index := 0#32
  ![v504.toNat, 0, 0]
def k0_off38 (d0 : Dev nD) : Fin 3 → Nat :=
  let c1_i32_455 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v501 : BitVec 32 := Scalar.subi c1_i32_455 v6
  let c1_i32_456 : BitVec 32 := 1#32
  let v502 : BitVec 32 := Scalar.muli v501 c1_i32_456
  let v506 : Index := Scalar.indexCast v502
  let c0_459 : Index := 0#32
  let c0_460 : Index := 0#32
  ![v506.toNat, 0, 0]
def k0_off39 (d0 : Dev nD) : Fin 3 → Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_38 : BitVec 32 := 4#32
  let v46 : BitVec 32 := Scalar.muli v8 c4_i32_38
  let v47 : BitVec 32 := Scalar.addi c0_i32_39 v46
  let c2_i32 : BitVec 32 := 2#32
  let v9 : BitVec 32 := Scalar.shrsi v2 c2_i32
  let c1_i32_5 : BitVec 32 := 1#32
  let v10 : BitVec 32 := Scalar.andi v9 c1_i32_5
  let c2_i32_211 : BitVec 32 := 2#32
  let v238 : BitVec 32 := Scalar.muli v10 c2_i32_211
  let v239 : BitVec 32 := Scalar.addi v47 v238
  let c1_i32_464 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v516 : BitVec 32 := Scalar.subi c1_i32_464 v6
  let c1_i32_465 : BitVec 32 := 1#32
  let v517 : BitVec 32 := Scalar.muli v516 c1_i32_465
  let v518 : BitVec 32 := Scalar.addi v239 v517
  let c0_i32_473 : BitVec 32 := 0#32
  let c0_i32_474 : BitVec 32 := 0#32
  ![v518.toNat, 0, 0]
def k0_dev17 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_466 : BitVec 32 := 1#32
  let v519 : BitVec 32 := Scalar.xori v2 c1_i32_466
  let c1_i32_471 : BitVec 32 := 1#32
  let v520 : BitVec 32 := Scalar.muli v519 c1_i32_471
  let v521 : BitVec 32 := Scalar.addi c0_i32_472 v520
  v521.toNat
def k0_off40 (d0 : Dev nD) : Fin 3 → Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_38 : BitVec 32 := 4#32
  let v46 : BitVec 32 := Scalar.muli v8 c4_i32_38
  let v47 : BitVec 32 := Scalar.addi c0_i32_39 v46
  let c2_i32 : BitVec 32 := 2#32
  let v9 : BitVec 32 := Scalar.shrsi v2 c2_i32
  let c1_i32_5 : BitVec 32 := 1#32
  let v10 : BitVec 32 := Scalar.andi v9 c1_i32_5
  let c2_i32_211 : BitVec 32 := 2#32
  let v238 : BitVec 32 := Scalar.muli v10 c2_i32_211
  let v239 : BitVec 32 := Scalar.addi v47 v238
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1_i32_475 : BitVec 32 := 1#32
  let v527 : BitVec 32 := Scalar.muli v6 c1_i32_475
  let v528 : BitVec 32 := Scalar.addi v239 v527
  let v529 : Index := Scalar.indexCast v528
  let c0_476 : Index := 0#32
  let c0_477 : Index := 0#32
  ![v529.toNat, 0, 0]
def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1_i32_475 : BitVec 32 := 1#32
  let v527 : BitVec 32 := Scalar.muli v6 c1_i32_475
  let v531 : Index := Scalar.indexCast v527
  let c0_478 : Index := 0#32
  let c0_479 : Index := 0#32
  ![v531.toNat, 0, 0]
def k0_off42 (d0 : Dev nD) : Fin 3 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_56 : BitVec 32 := 4#32
  let v65 : BitVec 32 := Scalar.muli v10 c4_i32_56
  let v66 : BitVec 32 := Scalar.addi c0_i32_57 v65
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c2_i32_253 : BitVec 32 := 2#32
  let v284 : BitVec 32 := Scalar.muli v6 c2_i32_253
  let v285 : BitVec 32 := Scalar.addi v66 v284
  let c1_i32_497 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v547 : BitVec 32 := Scalar.subi c1_i32_497 v8
  let c1_i32_498 : BitVec 32 := 1#32
  let v548 : BitVec 32 := Scalar.muli v547 c1_i32_498
  let v549 : BitVec 32 := Scalar.addi v285 v548
  let v550 : Index := Scalar.indexCast v549
  let c0_499 : Index := 0#32
  let c0_500 : Index := 0#32
  ![v550.toNat, 0, 0]
def k0_off43 (d0 : Dev nD) : Fin 3 → Nat :=
  let c1_i32_497 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let v547 : BitVec 32 := Scalar.subi c1_i32_497 v8
  let c1_i32_498 : BitVec 32 := 1#32
  let v548 : BitVec 32 := Scalar.muli v547 c1_i32_498
  let v552 : Index := Scalar.indexCast v548
  let c0_501 : Index := 0#32
  let c0_502 : Index := 0#32
  ![v552.toNat, 0, 0]
def k0_off44 (d0 : Dev nD) : Fin 3 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_56 : BitVec 32 := 4#32
  let v65 : BitVec 32 := Scalar.muli v10 c4_i32_56
  let v66 : BitVec 32 := Scalar.addi c0_i32_57 v65
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c2_i32_253 : BitVec 32 := 2#32
  let v284 : BitVec 32 := Scalar.muli v6 c2_i32_253
  let v285 : BitVec 32 := Scalar.addi v66 v284
  let c1_i32_506 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v562 : BitVec 32 := Scalar.subi c1_i32_506 v8
  let c1_i32_507 : BitVec 32 := 1#32
  let v563 : BitVec 32 := Scalar.muli v562 c1_i32_507
  let v564 : BitVec 32 := Scalar.addi v285 v563
  let c0_i32_515 : BitVec 32 := 0#32
  let c0_i32_516 : BitVec 32 := 0#32
  ![v564.toNat, 0, 0]
def k0_dev18 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_508 : BitVec 32 := 3#32
  let v565 : BitVec 32 := Scalar.xori v2 c3_i32_508
  let c1_i32_513 : BitVec 32 := 1#32
  let v566 : BitVec 32 := Scalar.muli v565 c1_i32_513
  let v567 : BitVec 32 := Scalar.addi c0_i32_514 v566
  v567.toNat
def k0_off45 (d0 : Dev nD) : Fin 3 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_56 : BitVec 32 := 4#32
  let v65 : BitVec 32 := Scalar.muli v10 c4_i32_56
  let v66 : BitVec 32 := Scalar.addi c0_i32_57 v65
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c2_i32_253 : BitVec 32 := 2#32
  let v284 : BitVec 32 := Scalar.muli v6 c2_i32_253
  let v285 : BitVec 32 := Scalar.addi v66 v284
  let c1_i32_3 : BitVec 32 := 1#32
  let v7 : BitVec 32 := Scalar.shrsi v2 c1_i32_3
  let c1_i32_4 : BitVec 32 := 1#32
  let v8 : BitVec 32 := Scalar.andi v7 c1_i32_4
  let c1_i32_517 : BitVec 32 := 1#32
  let v573 : BitVec 32 := Scalar.muli v8 c1_i32_517
  let v574 : BitVec 32 := Scalar.addi v285 v573
  let v575 : Index := Scalar.indexCast v574
  let c0_518 : Index := 0#32
  let c0_519 : Index := 0#32
  ![v575.toNat, 0, 0]
def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1_i32_517 : BitVec 32 := 1#32
  let v573 : BitVec 32 := Scalar.muli v8 c1_i32_517
  let v577 : Index := Scalar.indexCast v573
  let c0_520 : Index := 0#32
  let c0_521 : Index := 0#32
  ![v577.toNat, 0, 0]
def k0_off47 (d0 : Dev nD) : Fin 3 → Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_74 : BitVec 32 := 4#32
  let v84 : BitVec 32 := Scalar.muli v6 c4_i32_74
  let v85 : BitVec 32 := Scalar.addi c0_i32_75 v84
  let c1_i32_3 : BitVec 32 := 1#32
  let v7 : BitVec 32 := Scalar.shrsi v2 c1_i32_3
  let c1_i32_4 : BitVec 32 := 1#32
  let v8 : BitVec 32 := Scalar.andi v7 c1_i32_4
  let c2_i32_295 : BitVec 32 := 2#32
  let v330 : BitVec 32 := Scalar.muli v8 c2_i32_295
  let v331 : BitVec 32 := Scalar.addi v85 v330
  let c1_i32_539 : BitVec 32 := 1#32
  let c2_i32 : BitVec 32 := 2#32
  let v9 : BitVec 32 := Scalar.shrsi v2 c2_i32
  let c1_i32_5 : BitVec 32 := 1#32
  let v10 : BitVec 32 := Scalar.andi v9 c1_i32_5
  let v593 : BitVec 32 := Scalar.subi c1_i32_539 v10
  let c1_i32_540 : BitVec 32 := 1#32
  let v594 : BitVec 32 := Scalar.muli v593 c1_i32_540
  let v595 : BitVec 32 := Scalar.addi v331 v594
  let v596 : Index := Scalar.indexCast v595
  let c0_541 : Index := 0#32
  let c0_542 : Index := 0#32
  ![v596.toNat, 0, 0]
def k0_off48 (d0 : Dev nD) (c2_i32 : BitVec 32) : Fin 3 → Nat :=
  let c1_i32_539 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v9 : BitVec 32 := Scalar.shrsi v2 c2_i32
  let c1_i32_5 : BitVec 32 := 1#32
  let v10 : BitVec 32 := Scalar.andi v9 c1_i32_5
  let v593 : BitVec 32 := Scalar.subi c1_i32_539 v10
  let c1_i32_540 : BitVec 32 := 1#32
  let v594 : BitVec 32 := Scalar.muli v593 c1_i32_540
  let v598 : Index := Scalar.indexCast v594
  let c0_543 : Index := 0#32
  let c0_544 : Index := 0#32
  ![v598.toNat, 0, 0]
def k0_off49 (d0 : Dev nD) : Fin 3 → Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_74 : BitVec 32 := 4#32
  let v84 : BitVec 32 := Scalar.muli v6 c4_i32_74
  let v85 : BitVec 32 := Scalar.addi c0_i32_75 v84
  let c1_i32_3 : BitVec 32 := 1#32
  let v7 : BitVec 32 := Scalar.shrsi v2 c1_i32_3
  let c1_i32_4 : BitVec 32 := 1#32
  let v8 : BitVec 32 := Scalar.andi v7 c1_i32_4
  let c2_i32_295 : BitVec 32 := 2#32
  let v330 : BitVec 32 := Scalar.muli v8 c2_i32_295
  let v331 : BitVec 32 := Scalar.addi v85 v330
  let c1_i32_548 : BitVec 32 := 1#32
  let c2_i32 : BitVec 32 := 2#32
  let v9 : BitVec 32 := Scalar.shrsi v2 c2_i32
  let c1_i32_5 : BitVec 32 := 1#32
  let v10 : BitVec 32 := Scalar.andi v9 c1_i32_5
  let v608 : BitVec 32 := Scalar.subi c1_i32_548 v10
  let c1_i32_549 : BitVec 32 := 1#32
  let v609 : BitVec 32 := Scalar.muli v608 c1_i32_549
  let v610 : BitVec 32 := Scalar.addi v331 v609
  let c0_i32_557 : BitVec 32 := 0#32
  let c0_i32_558 : BitVec 32 := 0#32
  ![v610.toNat, 0, 0]
def k0_dev19 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_550 : BitVec 32 := 4#32
  let v611 : BitVec 32 := Scalar.xori v2 c4_i32_550
  let c1_i32_555 : BitVec 32 := 1#32
  let v612 : BitVec 32 := Scalar.muli v611 c1_i32_555
  let v613 : BitVec 32 := Scalar.addi c0_i32_556 v612
  v613.toNat
def k0_off50 (d0 : Dev nD) : Fin 3 → Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c4_i32_74 : BitVec 32 := 4#32
  let v84 : BitVec 32 := Scalar.muli v6 c4_i32_74
  let v85 : BitVec 32 := Scalar.addi c0_i32_75 v84
  let c1_i32_3 : BitVec 32 := 1#32
  let v7 : BitVec 32 := Scalar.shrsi v2 c1_i32_3
  let c1_i32_4 : BitVec 32 := 1#32
  let v8 : BitVec 32 := Scalar.andi v7 c1_i32_4
  let c2_i32_295 : BitVec 32 := 2#32
  let v330 : BitVec 32 := Scalar.muli v8 c2_i32_295
  let v331 : BitVec 32 := Scalar.addi v85 v330
  let c2_i32 : BitVec 32 := 2#32
  let v9 : BitVec 32 := Scalar.shrsi v2 c2_i32
  let c1_i32_5 : BitVec 32 := 1#32
  let v10 : BitVec 32 := Scalar.andi v9 c1_i32_5
  let c1_i32_559 : BitVec 32 := 1#32
  let v619 : BitVec 32 := Scalar.muli v10 c1_i32_559
  let v620 : BitVec 32 := Scalar.addi v331 v619
  let v621 : Index := Scalar.indexCast v620
  let c0_560 : Index := 0#32
  let c0_561 : Index := 0#32
  ![v621.toNat, 0, 0]
def k0_off51 (d0 : Dev nD) (c2_i32 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v9 : BitVec 32 := Scalar.shrsi v2 c2_i32
  let c1_i32_5 : BitVec 32 := 1#32
  let v10 : BitVec 32 := Scalar.andi v9 c1_i32_5
  let c1_i32_559 : BitVec 32 := 1#32
  let v619 : BitVec 32 := Scalar.muli v10 c1_i32_559
  let v623 : Index := Scalar.indexCast v619
  let c0_562 : Index := 0#32
  let c0_563 : Index := 0#32
  ![v623.toNat, 0, 0]
def k0_off52 (d0 : Dev nD) : Fin 3 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_92 : BitVec 32 := 4#32
  let v103 : BitVec 32 := Scalar.muli v8 c4_i32_92
  let v104 : BitVec 32 := Scalar.addi c0_i32_93 v103
  let c2_i32 : BitVec 32 := 2#32
  let v9 : BitVec 32 := Scalar.shrsi v2 c2_i32
  let c1_i32_5 : BitVec 32 := 1#32
  let v10 : BitVec 32 := Scalar.andi v9 c1_i32_5
  let c2_i32_337 : BitVec 32 := 2#32
  let v376 : BitVec 32 := Scalar.muli v10 c2_i32_337
  let v377 : BitVec 32 := Scalar.addi v104 v376
  let c1_i32_581 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v639 : BitVec 32 := Scalar.subi c1_i32_581 v6
  let c1_i32_582 : BitVec 32 := 1#32
  let v640 : BitVec 32 := Scalar.muli v639 c1_i32_582
  let v641 : BitVec 32 := Scalar.addi v377 v640
  let v642 : Index := Scalar.indexCast v641
  let c0_583 : Index := 0#32
  let c0_584 : Index := 0#32
  ![v642.toNat, 0, 0]
def k0_off53 (d0 : Dev nD) : Fin 3 → Nat :=
  let c1_i32_581 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v639 : BitVec 32 := Scalar.subi c1_i32_581 v6
  let c1_i32_582 : BitVec 32 := 1#32
  let v640 : BitVec 32 := Scalar.muli v639 c1_i32_582
  let v644 : Index := Scalar.indexCast v640
  let c0_585 : Index := 0#32
  let c0_586 : Index := 0#32
  ![v644.toNat, 0, 0]
def k0_off54 (d0 : Dev nD) : Fin 3 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_92 : BitVec 32 := 4#32
  let v103 : BitVec 32 := Scalar.muli v8 c4_i32_92
  let v104 : BitVec 32 := Scalar.addi c0_i32_93 v103
  let c2_i32 : BitVec 32 := 2#32
  let v9 : BitVec 32 := Scalar.shrsi v2 c2_i32
  let c1_i32_5 : BitVec 32 := 1#32
  let v10 : BitVec 32 := Scalar.andi v9 c1_i32_5
  let c2_i32_337 : BitVec 32 := 2#32
  let v376 : BitVec 32 := Scalar.muli v10 c2_i32_337
  let v377 : BitVec 32 := Scalar.addi v104 v376
  let c1_i32_590 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v654 : BitVec 32 := Scalar.subi c1_i32_590 v6
  let c1_i32_591 : BitVec 32 := 1#32
  let v655 : BitVec 32 := Scalar.muli v654 c1_i32_591
  let v656 : BitVec 32 := Scalar.addi v377 v655
  let c0_i32_599 : BitVec 32 := 0#32
  let c0_i32_600 : BitVec 32 := 0#32
  ![v656.toNat, 0, 0]
def k0_dev20 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_592 : BitVec 32 := 1#32
  let v657 : BitVec 32 := Scalar.xori v2 c1_i32_592
  let c1_i32_597 : BitVec 32 := 1#32
  let v658 : BitVec 32 := Scalar.muli v657 c1_i32_597
  let v659 : BitVec 32 := Scalar.addi c0_i32_598 v658
  v659.toNat
def k0_off55 (d0 : Dev nD) : Fin 3 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c4_i32_92 : BitVec 32 := 4#32
  let v103 : BitVec 32 := Scalar.muli v8 c4_i32_92
  let v104 : BitVec 32 := Scalar.addi c0_i32_93 v103
  let c2_i32 : BitVec 32 := 2#32
  let v9 : BitVec 32 := Scalar.shrsi v2 c2_i32
  let c1_i32_5 : BitVec 32 := 1#32
  let v10 : BitVec 32 := Scalar.andi v9 c1_i32_5
  let c2_i32_337 : BitVec 32 := 2#32
  let v376 : BitVec 32 := Scalar.muli v10 c2_i32_337
  let v377 : BitVec 32 := Scalar.addi v104 v376
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1_i32_601 : BitVec 32 := 1#32
  let v665 : BitVec 32 := Scalar.muli v6 c1_i32_601
  let v666 : BitVec 32 := Scalar.addi v377 v665
  let v667 : Index := Scalar.indexCast v666
  let c0_602 : Index := 0#32
  let c0_603 : Index := 0#32
  ![v667.toNat, 0, 0]
def k0_off56 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1_i32_601 : BitVec 32 := 1#32
  let v665 : BitVec 32 := Scalar.muli v6 c1_i32_601
  let v669 : Index := Scalar.indexCast v665
  let c0_604 : Index := 0#32
  let c0_605 : Index := 0#32
  ![v669.toNat, 0, 0]
def k0_off57 (d0 : Dev nD) : Fin 3 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_110 : BitVec 32 := 4#32
  let v122 : BitVec 32 := Scalar.muli v10 c4_i32_110
  let v123 : BitVec 32 := Scalar.addi c0_i32_111 v122
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c2_i32_379 : BitVec 32 := 2#32
  let v422 : BitVec 32 := Scalar.muli v6 c2_i32_379
  let v423 : BitVec 32 := Scalar.addi v123 v422
  let c1_i32_623 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v685 : BitVec 32 := Scalar.subi c1_i32_623 v8
  let c1_i32_624 : BitVec 32 := 1#32
  let v686 : BitVec 32 := Scalar.muli v685 c1_i32_624
  let v687 : BitVec 32 := Scalar.addi v423 v686
  let v688 : Index := Scalar.indexCast v687
  let c0_625 : Index := 0#32
  let c0_626 : Index := 0#32
  ![v688.toNat, 0, 0]
def k0_off58 (d0 : Dev nD) : Fin 3 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_110 : BitVec 32 := 4#32
  let v122 : BitVec 32 := Scalar.muli v10 c4_i32_110
  let v123 : BitVec 32 := Scalar.addi c0_i32_111 v122
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c2_i32_379 : BitVec 32 := 2#32
  let v422 : BitVec 32 := Scalar.muli v6 c2_i32_379
  let v423 : BitVec 32 := Scalar.addi v123 v422
  let c1_i32_632 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v700 : BitVec 32 := Scalar.subi c1_i32_632 v8
  let c1_i32_633 : BitVec 32 := 1#32
  let v701 : BitVec 32 := Scalar.muli v700 c1_i32_633
  let v702 : BitVec 32 := Scalar.addi v423 v701
  let c0_i32_641 : BitVec 32 := 0#32
  let c0_i32_642 : BitVec 32 := 0#32
  ![v702.toNat, 0, 0]
def k0_dev21 (d0 : Dev nD) : Nat :=
  let c0_i32_640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_634 : BitVec 32 := 3#32
  let v703 : BitVec 32 := Scalar.xori v2 c3_i32_634
  let c1_i32_639 : BitVec 32 := 1#32
  let v704 : BitVec 32 := Scalar.muli v703 c1_i32_639
  let v705 : BitVec 32 := Scalar.addi c0_i32_640 v704
  v705.toNat
def k0_off59 (d0 : Dev nD) : Fin 3 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_110 : BitVec 32 := 4#32
  let v122 : BitVec 32 := Scalar.muli v10 c4_i32_110
  let v123 : BitVec 32 := Scalar.addi c0_i32_111 v122
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c2_i32_379 : BitVec 32 := 2#32
  let v422 : BitVec 32 := Scalar.muli v6 c2_i32_379
  let v423 : BitVec 32 := Scalar.addi v123 v422
  let c1_i32_3 : BitVec 32 := 1#32
  let v7 : BitVec 32 := Scalar.shrsi v2 c1_i32_3
  let c1_i32_4 : BitVec 32 := 1#32
  let v8 : BitVec 32 := Scalar.andi v7 c1_i32_4
  let c1_i32_643 : BitVec 32 := 1#32
  let v711 : BitVec 32 := Scalar.muli v8 c1_i32_643
  let v712 : BitVec 32 := Scalar.addi v423 v711
  let v713 : Index := Scalar.indexCast v712
  let c0_644 : Index := 0#32
  let c0_645 : Index := 0#32
  ![v713.toNat, 0, 0]
abbrev stage0_0 : Fin 1 → Memref sig .tc .vmem S1x512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x512x4096 : Shape := ⟨3, ![8, 512, 4096]⟩
abbrev S_ : Shape := ⟨0, ![]⟩
abbrev S512x4096 : Shape := ⟨2, ![512, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S8x512x4096, .f32⟩
  | .hbm, ⟨2, _⟩ => ⟨S_, .f32⟩
  | .hbm, ⟨3, _⟩ => ⟨S512x4096, .f32⟩
  | .hbm, ⟨4, _⟩ => ⟨S512x4096, .bf16⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Slab.lean ====
/-
# 01_k — `Slab`: runs of leading slots of a rank-three buffer

Every working buffer of the kernel is a `[slots, rows, 512]` array, and everything the kernel does with one it
does with a run of consecutive slots: packs one slot, sends a run, adds a received run to a run. `slab` is a
device's ownership of such a run with stated contents, `blk` the same with contents unknown. This file says how
they split and join, how a load and a store act on them, and how they arise from a whole buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by an axis -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- A `[slots, rows, 512]` shape. -/
abbrev S3 (A R : ℕ) : Shape := ⟨3, ![A, R, 512]⟩

abbrev Buf3 (A R : ℕ) : Type := Memref sig .tc .vmem (S3 A R) .bf16

/-- Contents by slot, row and lane. -/
abbrev Cts (F : FTy → Type) : Type := ℕ → ℕ → ℕ → Elt F .bf16

/-- The elements of slots `lo .. lo + n`. -/
def rng {A R : ℕ} (lo n : ℕ) : Finset (S3 A R).Idx := Finset.univ.filter fun i => lo ≤ (i 0).val ∧ (i 0).val < lo + n

theorem mem_rng {A R lo n : ℕ} {i : (S3 A R).Idx} : i ∈ (rng lo n : Finset (S3 A R).Idx) ↔ lo ≤ (i 0).val ∧ (i 0).val < lo + n := by
  simp [rng]

theorem rng_all {A R : ℕ} : (rng 0 A : Finset (S3 A R).Idx) = Finset.univ := by
  ext i; simp only [mem_rng, Finset.mem_univ, iff_true]; exact ⟨Nat.zero_le _, by have := (i 0).isLt; simpa using this⟩

theorem rng_disjoint {A R l₁ n₁ l₂ n₂ : ℕ} (h : l₁ + n₁ ≤ l₂ ∨ l₂ + n₂ ≤ l₁) :
    Disjoint (rng l₁ n₁ : Finset (S3 A R).Idx) (rng l₂ n₂) :=
  Finset.disjoint_left.mpr fun i h1 h2 => by rw [mem_rng] at h1 h2; omega

theorem rng_union {A R lo n l₁ n₁ l₂ n₂ : ℕ} (h : (l₁ = lo ∧ l₂ = lo + n₁ ∨ l₂ = lo ∧ l₁ = lo + n₂) ∧ n = n₁ + n₂) :
    (rng lo n : Finset (S3 A R).Idx) = rng l₁ n₁ ∪ rng l₂ n₂ := by
  ext i; rw [Finset.mem_union, mem_rng, mem_rng, mem_rng]; omega

/-- A rectangle of whole slots is the run of them. -/
theorem rect_set {A R : ℕ} {off size : Fin 3 → ℕ} {inb} {lo n : ℕ} (ho : off = ![lo, 0, 0]) (hs : size = ![n, R, 512]) :
    (Rect.unit (s := S3 A R) off size inb).set = rng lo n := by
  subst ho; subst hs
  ext i; rw [Rect.mem_set_unit, mem_rng]
  constructor
  · intro h; exact h 0
  · intro h a
    have h1 := (i 1).isLt
    have h2 := (i 2).isLt
    fin_cases a
    · exact h
    · exact ⟨Nat.zero_le _, by simpa using h1⟩
    · exact ⟨Nat.zero_le _, by simpa using h2⟩

/-- The program `p` run on device `c`'s core to the postcondition `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Slab
variable {A R : ℕ} (c : Dev nD) (M : Buf3 A R)

/-- Slots `lo .. lo + n` of `M` on device `c`, holding `f`. -/
def slab (lo n : ℕ) (f : Cts F) : sProp 𝕄 :=
  iprop(∃ g : Buf (Elt F) (M.view.loc (c : Thread nD τ)),
    ⌜∀ i ∈ (rng lo n : Finset (S3 A R).Idx), M.view.read (Elt F) g i = f (i 0).val (i 1).val (i 2).val⌝
      ∗ (M.view.loc (c : Thread nD τ) ↦[M.view.setOn (rng lo n)]{fullShare} g))

/-- Slots `lo .. lo + n` of `M` on device `c`, holding anything. -/
def blk (lo n : ℕ) : sProp 𝕄 :=
  iprop(∃ g : Buf (Elt F) (M.view.loc (c : Thread nD τ)), (M.view.loc (c : Thread nD τ) ↦[M.view.setOn (rng lo n)]{fullShare} g))

instance slab_storable (lo n : ℕ) (f : Cts F) : BI.Storable (upEmb : UEmb _ 𝕄) (slab c M lo n f) := by unfold slab; infer_instance
omit [FloatOps F] in
instance blk_storable (lo n : ℕ) : BI.Storable (upEmb : UEmb _ 𝕄) (blk (F := F) c M lo n) := by unfold blk; infer_instance

theorem slab_blk (lo n : ℕ) (f : Cts F) : (slab c M lo n f : sProp 𝕄) ⊢ blk c M lo n := by
  unfold slab blk
  iintro ⟨%g, -, H⟩
  iexists g; iexact H

theorem slab_congr {lo n : ℕ} {f f' : Cts F} (h : ∀ s r l, lo ≤ s → s < lo + n → f s r l = f' s r l) :
    (slab c M lo n f : sProp 𝕄) ⊢ slab c M lo n f' := by
  unfold slab
  iintro ⟨%g, %hg, H⟩
  iexists g; isplitr
  · ipureintro; intro i hi; rw [hg i hi]; rw [mem_rng] at hi; exact h _ _ _ hi.1 hi.2
  · iexact H

theorem setOn_disjoint {S T : Finset (S3 A R).Idx} (h : Disjoint S T) : Disjoint (M.view.setOn S) (M.view.setOn T) :=
  (Finset.disjoint_map _).mpr h
theorem setOn_union (S T : Finset (S3 A R).Idx) : M.view.setOn (S ∪ T) = M.view.setOn S ∪ M.view.setOn T :=
  Finset.map_union _ _

/-- Two adjacent runs, in either order, make up a run. -/
abbrev Cut (lo n l₁ n₁ l₂ n₂ : ℕ) : Prop := (l₁ = lo ∧ l₂ = lo + n₁ ∨ l₂ = lo ∧ l₁ = lo + n₂) ∧ n = n₁ + n₂

theorem Cut.disjoint {lo n l₁ n₁ l₂ n₂ : ℕ} (h : Cut lo n l₁ n₁ l₂ n₂) : Disjoint (rng l₁ n₁ : Finset (S3 A R).Idx) (rng l₂ n₂) :=
  rng_disjoint (by have := h; unfold Cut at this; omega)

theorem slab_split {lo n l₁ n₁ l₂ n₂ : ℕ} (h : Cut lo n l₁ n₁ l₂ n₂) (f : Cts F) :
    (slab c M lo n f : sProp 𝕄) ⊢ iprop(slab c M l₁ n₁ f ∗ slab c M l₂ n₂ f) := by
  unfold slab
  rw [rng_union h, setOn_union]
  iintro ⟨%g, %hg, H⟩
  ihave H' := (pointsTo_union (setOn_disjoint M h.disjoint)).1 $$ H
  icases H' with ⟨H1, H2⟩
  isplitl [H1]
  · iexists g; isplitr
    · ipureintro; exact fun i hi => hg i (Finset.mem_union_left _ hi)
    · iexact H1
  · iexists g; isplitr
    · ipureintro; exact fun i hi => hg i (Finset.mem_union_right _ hi)
    · iexact H2

omit [FloatOps F] in
theorem blk_split {lo n l₁ n₁ l₂ n₂ : ℕ} (h : Cut lo n l₁ n₁ l₂ n₂) :
    (blk c M lo n : sProp 𝕄) ⊢ iprop(blk c M l₁ n₁ ∗ blk c M l₂ n₂) := by
  unfold blk
  rw [rng_union h, setOn_union]
  iintro ⟨%g, H⟩
  ihave H' := (pointsTo_union (setOn_disjoint M h.disjoint)).1 $$ H
  icases H' with ⟨H1, H2⟩
  isplitl [H1]
  · iexists g; iexact H1
  · iexists g; iexact H2

omit [FloatOps F] in
theorem blk_join {lo n l₁ n₁ l₂ n₂ : ℕ} (h : Cut lo n l₁ n₁ l₂ n₂) :
    iprop(blk c M l₁ n₁ ∗ blk c M l₂ n₂) ⊢ (blk c M lo n : sProp 𝕄) := by
  unfold blk
  rw [rng_union h, setOn_union]
  iintro ⟨⟨%g, H1⟩, ⟨%g', H2⟩⟩
  iexists _
  iapply (pointsTo_join (setOn_disjoint M h.disjoint))
  isplitl [H1]
  · iexact H1
  · iexact H2

theorem slab_join {lo n l₁ n₁ l₂ n₂ : ℕ} (h : Cut lo n l₁ n₁ l₂ n₂) (f : Cts F) :
    iprop(slab c M l₁ n₁ f ∗ slab c M l₂ n₂ f) ⊢ (slab c M lo n f : sProp 𝕄) := by
  unfold slab
  rw [rng_union h, setOn_union]
  iintro ⟨⟨%g, %hg, H1⟩, ⟨%g', %hg', H2⟩⟩
  iexists (M.view.setOn (rng l₂ n₂)).piecewise g' g
  isplitr
  · ipureintro; intro i hi
    by_cases hi2 : i ∈ (rng l₂ n₂ : Finset (S3 A R).Idx)
    · rw [View.read_apply, Finset.piecewise_eq_of_mem _ _ _ (M.view.mem_setOn.mpr hi2), ← View.read_apply]; exact hg' i hi2
    · rw [View.read_apply, Finset.piecewise_eq_of_notMem _ _ _ (fun h => hi2 (M.view.mem_setOn.mp h)), ← View.read_apply]
      exact hg i ((Finset.mem_union.mp hi).resolve_right hi2)
  · iapply (pointsTo_join (setOn_disjoint M h.disjoint))
    isplitl [H1]
    · iexact H1
    · iexact H2

/-- A whole buffer is its run of all slots. -/
theorem blk_whole : (blk c M 0 A : sProp 𝕄) = iprop(∃ g : Buf (Elt F) (M.view.loc (c : Thread nD τ)), (M.view.loc (c : Thread nD τ) ↦[M.view.set]{fullShare} g)) := by
  unfold blk; rw [rng_all, View.setOn_univ]

/-! ### Loads and stores -/

/-- A load of slots within a run held with known contents. -/
theorem wp_ld {α : Type} {Q : α → sProp 𝕄} {lo n : ℕ} {f : Cts F} {off size : Fin 3 → ℕ} {inb} {hl : M.view.LoadsAt (Rect.unit (s := S3 A R) off size inb).toLoadRect}
    {k : ((Rect.unit (s := S3 A R) off size inb).toLoadRect.shape.Idx → Elt F .bf16) → Prog (TpuEff nD τ sig (Elt F) Λ₀ .tc) α}
    (a b : ℕ) (ho : off = ![a, 0, 0]) (hs : size = ![b, R, 512]) (hin : lo ≤ a ∧ a + b ≤ lo + n) :
    (slab c M lo n f : sProp 𝕄)
      ⊢ iprop((slab c M lo n f -∗ WP c (k fun j => f (a + (j 0).val) (j 1).val (j 2).val) Q)
          -∗ WP c (.op (.load M (Rect.unit (s := S3 A R) off size inb).toLoadRect hl) k) Q) := by
  subst ho; subst hs
  unfold slab
  iintro ⟨%g, %hg, H⟩ Hk
  have hsub : M.view.setOn (Rect.unit (s := S3 A R) ![a, 0, 0] ![b, R, 512] inb).set ⊆ M.view.setOn (rng lo n) := by
    rw [rect_set rfl rfl]
    exact Finset.map_subset_map.mpr fun i hi => by rw [mem_rng] at hi ⊢; omega
  have hv : M.view.readAt (Elt F) (Rect.unit (s := S3 A R) ![a, 0, 0] ![b, R, 512] inb).toLoadRect g
      = fun j => f (a + (j 0).val) (j 1).val (j 2).val := by
    funext j
    rw [View.readAt_apply, hg _ (by
      have h0 : (j 0).val < b := (j 0).isLt
      rw [mem_rng, LoadRect.idx_apply]
      show lo ≤ a + 1 * (j 0).val ∧ a + 1 * (j 0).val < lo + n
      omega)]
    simp only [LoadRect.idx_apply]
    show f (a + 1 * (j 0).val) (0 + 1 * (j 1).val) (0 + 1 * (j 2).val) = _
    simp only [Nat.one_mul, Nat.zero_add]
  iapply (wp_load 𝒱₀ (c : Thread nD τ) none Set.univ (m := M) hsub) $$ H
  iintro H
  rw [hv]
  iapply Hk
  iexists g; isplitr
  · ipureintro; exact hg
  · iexact H

/-- A load of slots within a run whose contents are not known. -/
theorem wp_ld_blk {α : Type} {Q : α → sProp 𝕄} {lo n : ℕ} {off size : Fin 3 → ℕ} {inb} {hl : M.view.LoadsAt (Rect.unit (s := S3 A R) off size inb).toLoadRect}
    {k : ((Rect.unit (s := S3 A R) off size inb).toLoadRect.shape.Idx → Elt F .bf16) → Prog (TpuEff nD τ sig (Elt F) Λ₀ .tc) α}
    (a b : ℕ) (ho : off = ![a, 0, 0]) (hs : size = ![b, R, 512]) (hin : lo ≤ a ∧ a + b ≤ lo + n) :
    (blk c M lo n : sProp 𝕄)
      ⊢ iprop((∀ v, blk c M lo n -∗ WP c (k v) Q)
          -∗ WP c (.op (.load M (Rect.unit (s := S3 A R) off size inb).toLoadRect hl) k) Q) := by
  subst ho; subst hs
  unfold blk
  iintro ⟨%g, H⟩ Hk
  have hsub : M.view.setOn (Rect.unit (s := S3 A R) ![a, 0, 0] ![b, R, 512] inb).set ⊆ M.view.setOn (rng lo n) := by
    rw [rect_set rfl rfl]
    exact Finset.map_subset_map.mpr fun i hi => by rw [mem_rng] at hi ⊢; omega
  iapply (wp_load 𝒱₀ (c : Thread nD τ) none Set.univ (m := M) hsub) $$ H
  iintro H
  iapply Hk
  iexists g; iexact H

/-- A store to a whole run. -/
theorem wp_st {α : Type} {Q : α → sProp 𝕄} {lo n : ℕ} (f : Cts F) {off size : Fin 3 → ℕ} {inb}
    {w : (Rect.unit (s := S3 A R) off size inb).shape.Idx → Elt F .bf16}
    {hx : (M.access (Rect.unit (s := S3 A R) off size inb)).Stores Finset.univ} {hm}
    {k : PUnit → Prog (TpuEff nD τ sig (Elt F) Λ₀ .tc) α}
    (ho : off = ![lo, 0, 0]) (hs : size = ![n, R, 512])
    (hw : ∀ j, w j = f (lo + (j 0).val) (j 1).val (j 2).val) :
    (blk c M lo n : sProp 𝕄)
      ⊢ iprop((slab c M lo n f -∗ WP c (k ⟨⟩) Q)
          -∗ WP c (.op (.store M (Rect.unit (s := S3 A R) off size inb) w Finset.univ hx hm) k) Q) := by
  subst ho; subst hs
  unfold blk slab
  iintro ⟨%g, H⟩ Hk
  have hset : (M.access (Rect.unit (s := S3 A R) ![lo, 0, 0] ![n, R, 512] inb)).setOn Finset.univ = M.view.setOn (rng lo n) := by
    rw [View.setOn_univ, View.set_slice, rect_set rfl rfl]; rfl
  iapply (wp_store 𝒱₀ (c : Thread nD τ) none Set.univ (m := M) (r := Rect.unit (s := S3 A R) ![lo, 0, 0] ![n, R, 512] inb)
    (w := w) (Mk := Finset.univ) (hset ▸ Finset.Subset.refl _)) $$ H
  iintro H
  iapply Hk
  iexists _; isplitr
  swap
  · iexact H
  · ipureintro
    intro i hi
    rw [← rect_set (inb := inb) rfl rfl, ← Rect.map_emb_univ] at hi
    obtain ⟨j, -, rfl⟩ := Finset.mem_map.mp hi
    refine (View.read_slice_write_emb (v := M.view) _ _ _ (Finset.mem_univ j)).trans ?_
    rw [hw]
    simp only [Rect.emb_apply]
    show _ = f (lo + 1 * (j 0).val) (0 + 1 * (j 1).val) (0 + 1 * (j 2).val)
    simp only [Nat.one_mul, Nat.zero_add]

end Slab

end Cert.Cube

end
-- ==== Proof.Plan.lean ====
/-
# 01_k — `Plan`: the exchange on the cube, its contents and its schedule

The eight devices are the corners of a cube: `nb a c` is device `c`'s neighbour along axis `a`, `bit a c` its
coordinate there. The rows are cut into six pieces (`si`), each with a working buffer of eight slots, one per
device's block of columns. Piece `si` crosses the axes in the order `ax si 0, ax si 1, ax si 2`: at step `k` a
device sends the half of its live slots that its neighbour will keep and adds what it receives to the half it keeps
itself. `Pc X si k c` is what device `c`'s live slots hold after `k` steps.

Semaphores: the barrier (three units, one from each neighbour, each bringing the neighbour's landing buffers for the
transfers along that axis), and for each piece and step a send and a receive semaphore, one transfer each.
-/
module

public import proofs.«01_k».proof.Proof.Slab

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cube -/

/-- What a step along each axis flips in the device number. -/
def flip : Fin 3 → ℕ
  | 0 => 1 | 1 => 3 | 2 => 4

/-- The neighbour along axis `a`. -/
def nb (a : Fin 3) (c : Dev nD) : Dev nD := ⟨(c.val ^^^ flip a) % 8, Nat.mod_lt _ (by decide)⟩

/-- The coordinate along axis `a`. -/
def bit (a : Fin 3) (c : Dev nD) : ℕ :=
  match a with
  | 0 => (c.val + c.val / 2) % 2 | 1 => c.val / 2 % 2 | 2 => c.val / 4 % 2

theorem nb_nb (a : Fin 3) (c : Dev nD) : nb a (nb a c) = c := by revert a c; decide

def around (a : Fin 3) : Dev nD ≃ Dev nD := ⟨nb a, nb a, nb_nb a, nb_nb a⟩

/-- The axis piece `si` crosses at step `k`. -/
def ax (si : Fin 6) (k : ℕ) : Fin 3 := ⟨(si.val + k) % 3, Nat.mod_lt _ (by decide)⟩

/-- The step at which piece `si` crosses axis `a`. -/
def stepOf (a : Fin 3) (si : Fin 6) : Fin 3 := ⟨(a.val + 6 - si.val) % 3, Nat.mod_lt _ (by decide)⟩

theorem ax_stepOf (a : Fin 3) (si : Fin 6) : ax si (stepOf a si).val = a := by revert a si; decide
theorem stepOf_ax (si : Fin 6) (k : Fin 3) : stepOf (ax si k.val) si = k := by revert si k; decide

/-- The slots a transfer of step `k` carries. -/
abbrev nk : Fin 3 → ℕ
  | 0 => 4 | 1 => 2 | 2 => 1

/-- The first slot device `c` keeps at step `k`. -/
def kept (si : Fin 6) (k : Fin 3) (c : Dev nD) : ℕ :=
  match k with
  | 0 => 4 * bit (ax si 0) c
  | 1 => 4 * bit (ax si 0) c + 2 * bit (ax si 1) c
  | 2 => 4 * bit (ax si 0) c + 2 * bit (ax si 1) c + bit (ax si 2) c

/-- The first slot it sends: its neighbour's first kept one. -/
def sent (si : Fin 6) (k : Fin 3) (c : Dev nD) : ℕ := kept si k (nb (ax si k.val) c)

theorem sent_nb (si : Fin 6) (k : Fin 3) (c : Dev nD) : sent si k (nb (ax si k.val) c) = kept si k c := by
  unfold sent; rw [nb_nb]

theorem cut_zero (si : Fin 6) (c : Dev nD) : Cut 0 8 (sent si 0 c) 4 (kept si 0 c) 4 := by revert si c; decide
theorem cut_one (si : Fin 6) (c : Dev nD) : Cut (kept si 0 c) 4 (sent si 1 c) 2 (kept si 1 c) 2 := by revert si c; decide
theorem cut_two (si : Fin 6) (c : Dev nD) : Cut (kept si 1 c) 2 (sent si 2 c) 1 (kept si 2 c) 1 := by revert si c; decide

/-- The block of columns slot `s` of piece `si` is of. -/
def pos (si : Fin 6) (s : ℕ) : ℕ :=
  let v (a : Fin 3) : ℕ := match stepOf a si with
    | 0 => s / 4 % 2 | 1 => s / 2 % 2 | 2 => s % 2
  4 * v 2 + 2 * v 1 + (v 0 + v 1) % 2

theorem pos_kept (si : Fin 6) (c : Dev nD) : pos si (kept si 2 c) = c.val := by revert si c; decide

/-- The rows of each piece, and the first of them. -/
abbrev R : Fin 6 → ℕ
  | 0 => 112 | 1 => 112 | 2 => 96 | 3 => 64 | 4 => 64 | 5 => 64
abbrev row0 : Fin 6 → ℕ
  | 0 => 0 | 1 => 176 | 2 => 352 | 3 => 112 | 4 => 288 | 5 => 448

/-! ## The memrefs and cells -/

abbrev xM : Memref sig .tc .vmem S1x512x4096 .bf16 := Memref.whole cc0_stg0_0
abbrev oM : Memref sig .tc .vmem S512x512 .bf16 := Memref.whole cc0_stg1_0

/-- The working buffers. -/
def bufM : (si : Fin 6) → Buf3 8 (R si)
  | 0 => Memref.whole cc0_scratch0 | 1 => Memref.whole cc0_scratch4 | 2 => Memref.whole cc0_scratch8
  | 3 => Memref.whole cc0_scratch12 | 4 => Memref.whole cc0_scratch16 | 5 => Memref.whole cc0_scratch20

/-- The landing buffers. -/
def recvM : (si : Fin 6) → (k : Fin 3) → Buf3 (nk k) (R si)
  | 0, 0 => Memref.whole cc0_scratch1 | 0, 1 => Memref.whole cc0_scratch2 | 0, 2 => Memref.whole cc0_scratch3
  | 1, 0 => Memref.whole cc0_scratch5 | 1, 1 => Memref.whole cc0_scratch6 | 1, 2 => Memref.whole cc0_scratch7
  | 2, 0 => Memref.whole cc0_scratch9 | 2, 1 => Memref.whole cc0_scratch10 | 2, 2 => Memref.whole cc0_scratch11
  | 3, 0 => Memref.whole cc0_scratch13 | 3, 1 => Memref.whole cc0_scratch14 | 3, 2 => Memref.whole cc0_scratch15
  | 4, 0 => Memref.whole cc0_scratch17 | 4, 1 => Memref.whole cc0_scratch18 | 4, 2 => Memref.whole cc0_scratch19
  | 5, 0 => Memref.whole cc0_scratch21 | 5, 1 => Memref.whole cc0_scratch22 | 5, 2 => Memref.whole cc0_scratch23

abbrev barS : Sem sig := (SemArray.scalar (sig.barrier 0 rfl) : Sems sig S_).sem

/-- The kernel's own semaphores: a send one per piece and step, then a receive one per piece and step. -/
def xS (n : Fin 36) : DmaSem sig := ⟨2 + n.val, by have := n.isLt; show 2 + n.val < 38; omega⟩
def sIx (si : Fin 6) (k : Fin 3) : Fin 36 := ⟨3 * si.val + k.val, by omega⟩
def rIx (si : Fin 6) (k : Fin 3) : Fin 36 := ⟨18 + (3 * si.val + k.val), by omega⟩
abbrev sendS (si : Fin 6) (k : Fin 3) : DmaSem sig := xS (sIx si k)
abbrev recvS (si : Fin 6) (k : Fin 3) : DmaSem sig := xS (rIx si k)

/-- The piece and step of a semaphore of the send or the receive half. -/
def piece (n : ℕ) : Fin 6 := ⟨n / 3 % 6, Nat.mod_lt _ (by decide)⟩
def step (n : ℕ) : Fin 3 := ⟨n % 3, Nat.mod_lt _ (by decide)⟩

abbrev barCell (c : Dev nD) : GSem nD τ sig := ((c : Thread nD τ), .reg barS)
abbrev sendCell (si : Fin 6) (k : Fin 3) (c : Dev nD) : GSem nD τ sig := ((c : Thread nD τ), .dma (sendS si k))
abbrev recvCell (si : Fin 6) (k : Fin 3) (c : Dev nD) : GSem nD τ sig := ((c : Thread nD τ), .dma (recvS si k))

/-- All of a device's cells: the barrier's and the own ones. -/
abbrev csem : Option (Fin 36) → SemLoc sig
  | none => .reg barS | some n => .dma (xS n)
abbrev kcell (ck : Dev nD × Option (Fin 36)) : GSem nD τ sig := ((ck.1 : Thread nD τ), csem ck.2)

/-- What a transfer credits. -/
def N (si : Fin 6) (k : Fin 3) : ℕ := (recvM si k).view.dmaCredit

theorem N_pos (si : Fin 6) (k : Fin 3) : 0 < N si k := View.dmaCredit_pos _ (by revert si k; decide)

/-! ## Contents -/

section Contents
variable (X : Dev nD → S1x512x4096.Idx → Elt F .bf16)

/-- Row `r`, column `l` of device `c`'s block. -/
def xAt (c : Dev nD) (r l : ℕ) : Elt F .bf16 :=
  X c fun a => ⟨(![0, r, l] : Fin 3 → ℕ) a % S1x512x4096.size a, Nat.mod_lt _ (by fin_cases a <;> decide)⟩

/-- What device `c`'s live slots of piece `si` hold after `k` steps. -/
def Pc (si : Fin 6) : ℕ → Dev nD → Cts F
  | 0, c => fun s r l => xAt X c (row0 si + r) (512 * pos si s + l)
  | k + 1, c => fun s r l => FloatOps.addf (F := F) (φ := .bf16) (Pc si k c s r l) (Pc si k (nb (ax si k) c) s r l)

/-- What lands on device `c` at step `k`. -/
def Gc (si : Fin 6) (k : Fin 3) (c : Dev nD) : Cts F := fun s r l => Pc X si k.val (nb (ax si k.val) c) (kept si k c + s) r l

/-! ## The schedule -/

/-- What the neighbour along `a` hands device `c` at the barrier: its landing buffers for the transfers along `a`. -/
def barPay (c : Dev nD) (a : Fin 3) : sProp 𝕄 :=
  bigSep Finset.univ fun si : Fin 6 => blk (nb a c) (recvM si (stepOf a si)) 0 (nk (stepOf a si))
/-- A send semaphore gives the slots sent back; -/
def sendPay (si : Fin 6) (k : Fin 3) (c : Dev nD) : sProp 𝕄 := blk c (bufM si) (sent si k c) (nk k)
/-- a receive semaphore the landing buffer, filled. -/
def recvPay (si : Fin 6) (k : Fin 3) (c : Dev nD) : sProp 𝕄 := slab c (recvM si k) 0 (nk k) (Gc X si k c)

def semDuties : SemLoc sig → Finset (Fin 3)
  | .reg s => if s = barS then Finset.univ else ∅
  | .dma q => if 2 ≤ q.val then {0} else ∅

def semAmount : SemLoc sig → ℕ
  | .reg _ => 1
  | .dma q => if q.val < 20 then N (piece (q.val - 2)) (step (q.val - 2)) else N (piece (q.val - 20)) (step (q.val - 20))

def semPay (c : Dev nD) : SemLoc sig → Fin 3 → sProp 𝕄
  | .reg _, a => barPay c a
  | .dma q, _ => if q.val < 20 then sendPay (piece (q.val - 2)) (step (q.val - 2)) c else recvPay X (piece (q.val - 20)) (step (q.val - 20)) c

theorem semAmount_pos (sm : SemLoc sig) : 0 < semAmount sm := by
  cases sm with
  | reg s => exact Nat.one_pos
  | dma q => dsimp only [semAmount]; split <;> exact N_pos _ _

omit [FloatOps F] in
instance barPay_storable (c : Dev nD) (a : Fin 3) : BI.Storable (upEmb : UEmb _ 𝕄) (barPay (F := F) c a) := by
  unfold barPay; infer_instance
omit [FloatOps F] in
instance sendPay_storable (si : Fin 6) (k : Fin 3) (c : Dev nD) : BI.Storable (upEmb : UEmb _ 𝕄) (sendPay (F := F) si k c) := by
  unfold sendPay; infer_instance
instance recvPay_storable (si : Fin 6) (k : Fin 3) (c : Dev nD) : BI.Storable (upEmb : UEmb _ 𝕄) (recvPay X si k c) := by
  unfold recvPay; infer_instance
instance semPay_storable (c : Dev nD) (sm : SemLoc sig) (a : Fin 3) : BI.Storable (upEmb : UEmb _ 𝕄) (semPay X c sm a) := by
  cases sm with
  | reg s => unfold semPay; infer_instance
  | dma q => unfold semPay; dsimp only; split <;> infer_instance

/-- One round: each cell's duties, all in round 0. -/
def Rd : Rounds.Schedule (GSem nD τ sig) (Fin 3) 𝕄 where
  duties g r := if r = 0 ∧ g.1.2 = .tc then semDuties g.2 else ∅
  unitless _ := False
  amount g _ _ := semAmount g.2
  payload g _ d := semPay X g.1.1 g.2 d
  amount_pos g _ _ _ := semAmount_pos g.2

instance Rd_payload_storable (g : GSem nD τ sig) (r : ℕ) (d : Fin 3) : BI.Storable (upEmb : UEmb _ 𝕄) ((Rd X).payload g r d) :=
  semPay_storable X g.1.1 g.2 d

section Sched
variable (si : Fin 6) (k : Fin 3) (c : Dev nD)

theorem sIx_lt : (sendS si k).val < 20 := by revert si k; decide
theorem rIx_ge : ¬ (recvS si k).val < 20 := by revert si k; decide
theorem piece_send : piece ((sendS si k).val - 2) = si := by revert si k; decide
theorem step_send : step ((sendS si k).val - 2) = k := by revert si k; decide
theorem piece_recv : piece ((recvS si k).val - 20) = si := by revert si k; decide
theorem step_recv : step ((recvS si k).val - 20) = k := by revert si k; decide

theorem duties_bar : (Rd X).duties (barCell c) 0 = Finset.univ := by
  dsimp only [Rd]; rw [if_pos ⟨rfl, rfl⟩]; dsimp only [semDuties]; exact if_pos rfl
theorem duties_x (n : Fin 36) : (Rd X).duties ((c : Thread nD τ), .dma (xS n)) 0 = {0} := by
  dsimp only [Rd]; rw [if_pos ⟨rfl, rfl⟩]; exact if_pos (Nat.le_add_right 2 _)
theorem duties_later (g : GSem nD τ sig) : ∀ r, 1 ≤ r → (Rd X).duties g r = ∅ :=
  fun r hr => if_neg fun h => by omega

theorem amount_bar (d : Fin 3) : (Rd X).amount (barCell c) 0 d = 1 := rfl
theorem semAmount_send : semAmount (.dma (sendS si k)) = N si k := by
  dsimp only [semAmount]; rw [if_pos (sIx_lt si k), piece_send, step_send]
theorem semAmount_recv : semAmount (.dma (recvS si k)) = N si k := by
  dsimp only [semAmount]; rw [if_neg (rIx_ge si k), piece_recv, step_recv]
theorem amount_send (d : Fin 3) : (Rd X).amount (sendCell si k c) 0 d = N si k := semAmount_send si k
theorem amount_recv (d : Fin 3) : (Rd X).amount (recvCell si k c) 0 d = N si k := semAmount_recv si k

theorem expect_bar : (Rd X).expect (barCell c) 0 = 3 := by
  unfold Schedule.expect Schedule.amountOf
  rw [duties_bar, Finset.sum_congr rfl fun d _ => amount_bar X c d, Finset.sum_const, Finset.card_univ, Fintype.card_fin, smul_eq_mul]
theorem expect_send : (Rd X).expect (sendCell si k c) 0 = N si k := by
  unfold Schedule.expect Schedule.amountOf; rw [duties_x, Finset.sum_singleton, amount_send]
theorem expect_recv : (Rd X).expect (recvCell si k c) 0 = N si k := by
  unfold Schedule.expect Schedule.amountOf; rw [duties_x, Finset.sum_singleton, amount_recv]

theorem payload_bar (a : Fin 3) : (Rd X).payload (barCell c) 0 a = barPay c a := rfl
theorem payload_send (d : Fin 3) : (Rd X).payload (sendCell si k c) 0 d = sendPay si k c := by
  show semPay X c (.dma (sendS si k)) d = _
  dsimp only [semPay]; rw [if_pos (sIx_lt si k), piece_send, step_send]
theorem payload_recv (d : Fin 3) : (Rd X).payload (recvCell si k c) 0 d = recvPay X si k c := by
  show semPay X c (.dma (recvS si k)) d = _
  dsimp only [semPay]; rw [if_neg (rIx_ge si k), piece_recv, step_recv]

theorem rest_bar : bigSep ((Rd X).duties (barCell c) 0 \ ∅) (fun d => (Rd X).payload (barCell c) 0 d)
    = iprop(barPay c 0 ∗ barPay c 1 ∗ barPay c 2) := by
  rw [Finset.sdiff_empty, duties_bar, bigSep_univ_eq_bigSepL [0, 1, 2] (by decide) (by decide)]
  rfl
theorem rest_send : bigSep ((Rd X).duties (sendCell si k c) 0 \ ∅) (fun d => (Rd X).payload (sendCell si k c) 0 d) = sendPay si k c := by
  rw [Finset.sdiff_empty, duties_x, bigSep_singleton, payload_send]
theorem rest_recv : bigSep ((Rd X).duties (recvCell si k c) 0 \ ∅) (fun d => (Rd X).payload (recvCell si k c) 0 d) = recvPay X si k c := by
  rw [Finset.sdiff_empty, duties_x, bigSep_singleton, payload_recv]

end Sched
end Contents

/-! ## What each core owes at launch; the levels -/

/-- What a device owes: a unit to the barrier of its neighbour along an axis, or a transfer's credit. -/
inductive Due where
  | bar (a : Fin 3)
  | recv (si : Fin 6) (k : Fin 3)

namespace Due
/-- The axis along which it is owed, the semaphore owed and the amount. -/
def axis : Due → Fin 3
  | bar a => a | recv si k => ax si k.val
def sem : Due → SemLoc sig
  | bar _ => .reg barS | recv si k => .dma (recvS si k)
def amt : Due → ℕ
  | bar _ => 1 | recv si k => N si k
def level : Due → ℕ
  | bar _ => 1 | recv _ k => 2 + k.val
end Due

/-- The cell device `c` owes a due to. -/
def dueCell (c : Dev nD) (d : Due) : GSem nD τ sig := ((nb d.axis c : Thread nD τ), d.sem)

def owed : List Due → Dev nD → CellTallies nD τ sig Unit
  | [], _ => 0
  | d :: l, c => owed l c + tallyAt (dueCell c d) () d.amt

/-- The dues in program order. -/
def sched : List Due :=
  [.bar 0, .bar 1, .bar 2,
   .recv 0 0, .recv 1 0, .recv 2 0, .recv 3 0, .recv 4 0, .recv 5 0,
   .recv 0 1, .recv 1 1, .recv 2 1, .recv 3 1, .recv 4 1, .recv 5 1,
   .recv 0 2, .recv 1 2, .recv 2 2, .recv 3 2, .recv 4 2, .recv 5 2]

def L (g : GSem nD τ sig) : Finset Unit := if g.1.2 = .tc then {()} else ∅
/-- Barriers at 1, receive semaphores of step `k` at `2 + k`, the rest at 0. -/
def semLv : SemLoc sig → ℕ
  | .reg _ => 1
  | .dma q => if q.val < 20 then 0 else 2 + (q.val - 20) % 3
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem semLv_send (si : Fin 6) (k : Fin 3) : semLv (.dma (sendS si k)) = 0 := by revert si k; decide
theorem semLv_recv (si : Fin 6) (k : Fin 3) : semLv (.dma (recvS si k)) = 2 + k.val := by revert si k; decide
theorem semLv_due (d : Due) : semLv d.sem = d.level := by
  cases d with
  | bar a => rfl
  | recv si k => exact semLv_recv si k

theorem owed_pos {l : List Due} {c : Dev nD} {g : GSem nD τ sig} {u : Unit} (h : 0 < owed l c g u) : ∃ d ∈ l, g = dueCell c d := by
  induction l with
  | nil => exact absurd h (Nat.lt_irrefl 0)
  | cons d l ih =>
    unfold owed at h
    rw [Pi.add_apply, Finsupp.add_apply, tallyAt_apply] at h
    by_cases hg : g = dueCell c d ∧ u = ()
    · exact ⟨d, List.mem_cons_self, hg.1⟩
    · rw [if_neg hg, Nat.add_zero] at h
      obtain ⟨d', hd', e⟩ := ih h
      exact ⟨d', List.mem_cons_of_mem _ hd', e⟩

omit [FloatOps F] in
/-- A device may wait on a semaphore below everything it owes. -/
theorem mayWait_owed (c : Dev nD) (sm : SemLoc sig) (l : List Due) (h : ∀ d ∈ l, semLv sm < d.level) :
    (levAts L lv : sProp 𝕄) ⊢ MayWait (c : Thread nD τ) sm () (owed l c) :=
  MayOwe.of_cut (L := L) (lev := lv) (semLv sm) (fun p hp => by rw [Finset.mem_singleton.mp hp, L_tc]; exact Finset.mem_singleton_self _)
    (fun g u hg => by obtain ⟨d, -, rfl⟩ := owed_pos hg; exact Finset.mem_singleton_self _)
    (fun p hp => by rw [Finset.mem_singleton.mp hp]; exact le_refl _)
    (fun g u hg => by obtain ⟨d, hd, rfl⟩ := owed_pos hg; show _ < semLv d.sem; rw [semLv_due]; exact h d hd)

end Cert.Cube

end
-- ==== Proof.Steps.lean ====
/-
# 01_k — `Steps`: one rule per kind of step of the kernel

The states a piece goes through on a device, and a rule for each kind of step: packing half a buffer, sending,
waiting for what was sent and for what comes, adding, and writing the result. Each rule takes the piece's state
apart from whatever else it holds (`P`).
-/
module

public import proofs.«01_k».proof.Proof.Plan
public import Idealize.ShloMosaic.Lib.ValueLayout
public import Idealize.ShloMosaic.Lib.Pipeline.Value

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem lift_bind {α β : Type} (o : TpuEff nD τ sig (Elt F) Λ₀ .tc β) (k : β → Prog (TpuEff nD τ sig (Elt F) Λ₀ .tc) α) :
    (Prog.lift o >>= k) = .op o k := rfl

theorem cut_kept (si : Fin 6) (k j : Fin 3) (h : j.val = k.val + 1) (c : Dev nD) :
    Cut (kept si k c) (nk k) (sent si j c) (nk j) (kept si j c) (nk j) := by revert si k j c; decide

section Steps
variable (X : Dev nD → S1x512x4096.Idx → Elt F .bf16) (K : Dev nD × Option (Fin 36) → ℕ) (c : Dev nD)

/-! ## What is known throughout -/

def records : sProp 𝕄 :=
  iprop((bigSep (Finset.univ : Finset (Dev nD × Option (Fin 36))) fun ck => cellInv ER (Rd X) (K ck) (kcell ck))
    ∗ bigSep (Finset.univ : Finset (Dev nD × Option (Fin 36))) fun ck => reached ER (kcell ck) 0)
instance records_persistent : BI.Persistent (records X K) := by unfold records; infer_instance

def Ctx : sProp 𝕄 := iprop(records X K ∗ levAts L lv)
instance Ctx_persistent : BI.Persistent (Ctx X K) := by unfold Ctx; infer_instance

theorem inv_at (ck : Dev nD × Option (Fin 36)) : Ctx X K ⊢ cellInv ER (Rd X) (K ck) (kcell ck) := by
  unfold Ctx records
  exact sep_elim_left.trans (sep_elim_left.trans (bigSep_elim (Finset.mem_univ ck)))
theorem reached_at (ck : Dev nD × Option (Fin 36)) : Ctx X K ⊢ reached ER (kcell ck) 0 := by
  unfold Ctx records
  exact sep_elim_left.trans (sep_elim_right.trans (bigSep_elim (Finset.mem_univ ck)))

/-- What device `c` still owes after `n` of its dues. -/
def Owes (n : ℕ) : sProp 𝕄 := iprop(∃ W, owes (c : Thread nD τ) (owed (sched.drop n) c) W)

theorem owed_step {n : ℕ} {d : Due} (h : sched[n]? = some d) :
    owed (sched.drop n) c = owed (sched.drop (n + 1)) c + tallyAt (dueCell c d) () d.amt := by
  obtain ⟨hn, rfl⟩ := List.getElem?_eq_some_iff.mp h
  rw [List.drop_eq_getElem_cons hn]; rfl

/-! ## The states of a transfer -/

/-- Before: what device `c` needs to send step `k` of piece `si`, and to wait for what comes. -/
def Rdy (si : Fin 6) (k : Fin 3) : sProp 𝕄 :=
  iprop(dutyTok ER (sendCell si k c) 0 0 ∗ dutyTok ER (recvCell si k (nb (ax si k.val) c)) 0 0
    ∗ atPos ER (sendCell si k c) 0 ∅ 0 ∗ atPos ER (recvCell si k c) 0 ∅ 0
    ∗ cred (tallyAt (recvCell si k c) () (N si k)) ∗ blk (nb (ax si k.val) c) (recvM si k) 0 (nk k))
/-- Sent; -/
def Fly (si : Fin 6) (k : Fin 3) : sProp 𝕄 :=
  iprop(atPos ER (sendCell si k c) 0 ∅ 0 ∗ atPos ER (recvCell si k c) 0 ∅ 0
    ∗ cred (tallyAt (sendCell si k c) () (N si k)) ∗ cred (tallyAt (recvCell si k c) () (N si k)))
/-- what was sent has gone; -/
def Half (si : Fin 6) (k : Fin 3) : sProp 𝕄 :=
  iprop(blk c (bufM si) (sent si k c) (nk k) ∗ semVal (sendCell si k c) 0
    ∗ atPos ER (recvCell si k c) 0 ∅ 0 ∗ cred (tallyAt (recvCell si k c) () (N si k)))
/-- what was to come has come. -/
def Got (si : Fin 6) (k : Fin 3) : sProp 𝕄 :=
  iprop(slab c (recvM si k) 0 (nk k) (Gc X si k c) ∗ blk c (bufM si) (sent si k c) (nk k)
    ∗ semVal (sendCell si k c) 0 ∗ semVal (recvCell si k c) 0)

/-! ## Transfers -/

set_option maxHeartbeats 1600000 in
theorem wp_send {α : Type} {Q : α → sProp 𝕄} (si : Fin 6) (k : Fin 3) (n : ℕ) (hn : sched[n]? = some (.recv si k))
    {off : Fin 3 → ℕ} {inb : ∀ a, off a + (![nk k, R si, 512] : Fin 3 → ℕ) a ≤ (S3 8 (R si)).size a} {hu} {d : Dev nD} {sS sR : DmaSem sig}
    (hd : d = nb (ax si k.val) c) (ho : off = ![sent si k c, 0, 0])
    (hsS : sS = sendS si k) (hsR : sR = recvS si k)
    {hsc : (recvM si k : Memref sig (Dev.tc d : Thread nD τ).2.kind .vmem (S3 (nk k) (R si)) .bf16).view.ref.isScScratch = false}
    {hsrc : ((bufM si).slice (Rect.unit (s := S3 8 (R si)) off ![nk k, R si, 512] inb) hu).view.WordExact}
    {hdst : (recvM si k).view.WordExact}
    {hsem : DmaTarget.Typed .vmem (.dma sR) (.remote (Dev.tc d : Thread nD τ) (recvM si k) (.dma sS) hsc)}
    {kk : PUnit → Prog (TpuEff nD τ sig (Elt F) Λ₀ .tc) α} {P : sProp 𝕄} :
    Ctx X K ⊢ iprop((slab c (bufM si) (sent si k c) (nk k) (Pc X si k.val c) ∗ P) -∗ Rdy c si k -∗ Owes c n
        -∗ ((Fly c si k ∗ P) -∗ Owes c (n + 1) -∗ WP c (kk ⟨⟩) Q)
        -∗ WP c (Prog.lift (.enqueueDma ((bufM si).slice (Rect.unit (s := S3 8 (R si)) off ![nk k, R si, 512] inb) hu)
            (.remote (Dev.tc d : Thread nD τ) (recvM si k) (.dma sS) hsc) (.dma sR) hsrc hdst hsem) >>= kk) Q) := by
  subst hd; subst ho; subst hsS; subst hsR
  rw [lift_bind]
  have hset : ((bufM si).slice (Rect.unit (s := S3 8 (R si)) ![sent si k c, 0, 0] ![nk k, R si, 512] inb) hu).view.set
      = (bufM si).view.setOn (rng (sent si k c) (nk k)) := by
    rw [← rect_set (inb := inb) rfl rfl]; exact View.set_slice _ _
  unfold slab Rdy Fly Owes blk
  iintro #HC ⟨⟨%g, %hg, Hs⟩, HP⟩ ⟨HtS, HtR, HaS, HaR, HcR, ⟨%fd, Hd⟩⟩ ⟨%W, HO⟩ Hk
  iapply (Rounds.wp_send_pointsTo 𝒱₀ ER (Rd X) (c : Thread nD τ) none (κ₁ := K (c, some (sIx si k)))
    (κ₂ := K (nb (ax si k.val) c, some (rIx si k)))
    (src := (bufM si).slice (Rect.unit (s := S3 8 (R si)) ![sent si k c, 0, 0] ![nk k, R si, 512] inb) hu)
    (r₁ := 0) (r₂ := 0) (d₁ := 0) (d₂ := 0) (fs := g) (fd := fd)
    (by rw [duties_x]; exact Finset.mem_singleton_self _) (by rw [duties_x]; exact Finset.mem_singleton_self _)
    () () (N si k) rfl (amount_send X si k c 0) (amount_recv X si k _ 0) (owed (sched.drop (n + 1)) c) (owed_step c hn) (W := W)
    (by rw [payload_send]; unfold sendPay blk; rw [hset]; iintro H; iexists g; iexact H)
    (by
      rw [payload_recv]; unfold recvPay slab
      rw [rng_all, View.setOn_univ]
      iintro H
      iexists _; isplitr
      swap
      · iexact H
      · ipureintro
        intro i hi
        refine (congrFun (View.read_write_univ _ _) i).trans ?_
        refine (hg _ ?_).trans ?_
        · rw [← rect_set (inb := inb) rfl rfl]; rw [← Rect.map_emb_univ]; exact Finset.mem_map_of_mem _ (Finset.mem_univ i)
        · unfold Gc
          rw [nb_nb]
          show Pc X si k.val c (sent si k c + 1 * (i 0).val) (0 + 1 * (i 1).val) (0 + 1 * (i 2).val) = _
          simp only [Nat.one_mul, Nat.zero_add]; rfl)) $$ [Hs Hd HO HtS HtR]
  · isplitr; · iapply (inv_at X K (c, some (sIx si k))); iexact HC
    isplitr; · iapply (inv_at X K (nb (ax si k.val) c, some (rIx si k))); iexact HC
    isplitl [Hs]; · rw [hset]; iexact Hs
    isplitl [Hd]; · rw [rng_all, View.setOn_univ]; iexact Hd
    isplitl [HO]; · iexact HO
    isplitl [HtS]; · iexact HtS
    isplitr; · iapply (reached_at X K (c, some (sIx si k))); iexact HC
    isplitl [HtR]; · iexact HtR
    iapply (reached_at X K (nb (ax si k.val) c, some (rIx si k))); iexact HC
  iintro ⟨HcS, HO⟩
  iapply Hk $$ [HaS HaR HcR HcS HP]
  · isplitr [HP]
    · isplitl [HaS]; · iexact HaS
      isplitl [HaR]; · iexact HaR
      isplitl [HcS]; · iexact HcS
      iexact HcR
    · iexact HP
  · iexists W; iexact HO

set_option maxHeartbeats 1600000 in
/-- The wait on a send semaphore. -/
theorem wp_swait {α : Type} {Q : α → sProp 𝕄} (si : Fin 6) (k : Fin 3) (n : ℕ) (hn : ∀ d ∈ sched.drop n, 0 < d.level)
    {sp sp' : Space} {s s' : Shape} {e e' : EltTy} {sS : DmaSem sig} {src : Memref sig .tc sp' s' e'} {dst : Memref sig .tc sp s e}
    {hsrc : src.view.WordExact} {hdst : dst.view.WordExact} (hsS : sS = sendS si k) (hN : dst.view.dmaCredit = N si k)
    {kk : PUnit → Prog (TpuEff nD τ sig (Elt F) Λ₀ .tc) α} {P : sProp 𝕄} :
    Ctx X K ⊢ iprop((Fly c si k ∗ P) -∗ Owes c n -∗ ((Half c si k ∗ P) -∗ Owes c n -∗ WP c (kk ⟨⟩) Q)
        -∗ WP c (Prog.lift (.waitDma2 sS src dst hsrc hdst) >>= kk) Q) := by
  subst hsS
  rw [lift_bind]
  unfold Fly Half Owes
  iintro #HC ⟨⟨HaS, HaR, HcS, HcR⟩, HP⟩ ⟨%W, HO⟩ Hk
  iapply (Rounds.wp_wait_rest_token 𝒱₀ ER (Rd X) (c : Thread nD τ) none (κ := K (c, some (sIx si k)))
      (wpE_waitDma2_eq 𝒱₀ (c : Thread nD τ) none Set.univ) (Set.mem_univ _) () (O := owed (sched.drop n) c) (W := W) (R := 0) (m := 0) (T := ∅)
      (by rw [Nat.zero_add, expect_send, hN])) $$ [HcS HO HaS]
  · isplitr; · iapply (inv_at X K (c, some (sIx si k))); iexact HC
    isplitl [HcS]; · rw [hN]; iexact HcS
    isplitl [HO]; · iexact HO
    isplitr
    · iapply (mayWait_owed (F := F) c (.dma (sendS si k)) _ (by rw [semLv_send]; exact hn)); unfold Ctx; icases HC with ⟨-, HL⟩; iexact HL
    iexact HaS
  iintro ⟨HO, HaS, -, Hpay⟩
  ihave Hb := (Entails.of_eq (rest_send X si k c)) $$ Hpay
  imod (Rounds.cell_close ER (Rd X) (Set.mem_univ (K (c, some (sIx si k)))) (fun h => h) (R := 0 + 1) (duties_later X (sendCell si k c))) $$ [HaS] with Hz
  · isplitr; · iapply (inv_at X K (c, some (sIx si k))); iexact HC
    iexact HaS
  iapply Hk $$ [HaR HcR Hb Hz HP]
  · isplitr [HP]
    · isplitl [Hb]; · unfold sendPay; iexact Hb
      isplitl [Hz]; · iexact Hz
      isplitl [HaR]; · iexact HaR
      iexact HcR
    · iexact HP
  · iexists _; iexact HO

set_option maxHeartbeats 1600000 in
/-- The wait on a receive semaphore. -/
theorem wp_rwait {α : Type} {Q : α → sProp 𝕄} (si : Fin 6) (k : Fin 3) (n : ℕ) (hn : ∀ d ∈ sched.drop n, 2 + k.val < d.level)
    {sp sp' : Space} {s s' : Shape} {e e' : EltTy} {sR : DmaSem sig} {src : Memref sig .tc sp' s' e'} {dst : Memref sig .tc sp s e}
    {hsrc : src.view.WordExact} {hdst : dst.view.WordExact} (hsR : sR = recvS si k) (hN : dst.view.dmaCredit = N si k)
    {kk : PUnit → Prog (TpuEff nD τ sig (Elt F) Λ₀ .tc) α} {P : sProp 𝕄} :
    Ctx X K ⊢ iprop((Half c si k ∗ P) -∗ Owes c n -∗ ((Got X c si k ∗ P) -∗ Owes c n -∗ WP c (kk ⟨⟩) Q)
        -∗ WP c (Prog.lift (.waitDma2 sR src dst hsrc hdst) >>= kk) Q) := by
  subst hsR
  rw [lift_bind]
  unfold Half Got Owes
  iintro #HC ⟨⟨Hb, HzS, HaR, HcR⟩, HP⟩ ⟨%W, HO⟩ Hk
  iapply (Rounds.wp_wait_rest_token 𝒱₀ ER (Rd X) (c : Thread nD τ) none (κ := K (c, some (rIx si k)))
      (wpE_waitDma2_eq 𝒱₀ (c : Thread nD τ) none Set.univ) (Set.mem_univ _) () (O := owed (sched.drop n) c) (W := W) (R := 0) (m := 0) (T := ∅)
      (by rw [Nat.zero_add, expect_recv, hN])) $$ [HcR HO HaR]
  · isplitr; · iapply (inv_at X K (c, some (rIx si k))); iexact HC
    isplitl [HcR]; · rw [hN]; iexact HcR
    isplitl [HO]; · iexact HO
    isplitr
    · iapply (mayWait_owed (F := F) c (.dma (recvS si k)) _ (by rw [semLv_recv]; exact hn)); unfold Ctx; icases HC with ⟨-, HL⟩; iexact HL
    iexact HaR
  iintro ⟨HO, HaR, -, Hpay⟩
  ihave Hr := (Entails.of_eq (rest_recv X si k c)) $$ Hpay
  imod (Rounds.cell_close ER (Rd X) (Set.mem_univ (K (c, some (rIx si k)))) (fun h => h) (R := 0 + 1) (duties_later X (recvCell si k c))) $$ [HaR] with Hz
  · isplitr; · iapply (inv_at X K (c, some (rIx si k))); iexact HC
    iexact HaR
  iapply Hk $$ [Hb HzS Hr Hz HP]
  · isplitr [HP]
    · isplitl [Hr]; · unfold recvPay; iexact Hr
      isplitl [Hb]; · iexact Hb
      isplitl [HzS]; · iexact HzS
      iexact Hz
    · iexact HP
  · iexists _; iexact HO

/-! ## The barrier -/

set_option maxHeartbeats 1600000 in
/-- The signal to the neighbour along `a`, with the own landing buffers for the transfers along `a`. -/
theorem wp_bar {α : Type} {Q : α → sProp 𝕄} (a : Fin 3) (n : ℕ) (hn : sched[n]? = some (.bar a)) {d : Dev nD} (hd : d = nb a c)
    {kk : PUnit → Prog (TpuEff nD τ sig (Elt F) Λ₀ .tc) α} :
    Ctx X K ⊢ iprop((dutyTok ER (barCell (nb a c)) 0 a ∗ barPay (nb a c) a) -∗ Owes c n -∗ (Owes c (n + 1) -∗ WP c (kk ⟨⟩) Q)
        -∗ WP c (semSignalWord d barS 1#32 >>= kk) Q) := by
  subst hd
  unfold Owes
  simp only [semSignalWord, Prog.bind_op, Prog.bind_ret]
  iintro #HC ⟨Ht, Hp⟩ ⟨%W, HO⟩ Hk
  iapply (Rounds.wp_signal 𝒱₀ ER (Rd X) (c : Thread nD τ) none (dst := (nb a c : Thread nD τ)) (κ := K (nb a c, none))
      (d := a) (by rw [duties_bar]; exact Finset.mem_univ _) ((amount_bar X (nb a c) a).trans (by decide)) ()
      (owed (sched.drop (n + 1)) c) (by exact owed_step c hn)) $$ [HO Ht Hp]
  · isplitr; · iapply (inv_at X K (nb a c, none)); iexact HC
    isplitl [HO]; · iexact HO
    isplitl [Ht]; · iexact Ht
    isplitl [Hp]; · rw [payload_bar]; iexact Hp
    iapply (reached_at X K (nb a c, none)); iexact HC
  iintro HO
  iapply Hk
  iexists W; iexact HO

set_option maxHeartbeats 1600000 in
/-- The wait for the three neighbours. -/
theorem wp_barWait {α : Type} {Q : α → sProp 𝕄} (n : ℕ) (hn : ∀ d ∈ sched.drop n, 1 < d.level)
    {kk : PUnit → Prog (TpuEff nD τ sig (Elt F) Λ₀ .tc) α} :
    Ctx X K ⊢ iprop((atPos ER (barCell c) 0 ∅ 0 ∗ cred (tallyAt (barCell c) () 3)) -∗ Owes c n
        -∗ ((barPay c 0 ∗ barPay c 1 ∗ barPay c 2) -∗ semVal (barCell c) 0 -∗ Owes c n -∗ WP c (kk ⟨⟩) Q)
        -∗ WP c (semWaitWord barS 3#32 >>= kk) Q) := by
  unfold Owes
  simp only [semWaitWord, Prog.bind_op, Prog.bind_ret]
  iintro #HC ⟨Ha, Hc⟩ ⟨%W, HO⟩ Hk
  iapply (Rounds.wp_wait_rest_token 𝒱₀ ER (Rd X) (c : Thread nD τ) none (κ := K (c, none))
      (wpE_semWait_eq 𝒱₀ (c : Thread nD τ) none Set.univ) (Set.mem_univ _) () (O := owed (sched.drop n) c) (W := W) (R := 0) (m := 0) (T := ∅)
      (by rw [expect_bar]; decide)) $$ [Hc HO Ha]
  · isplitr; · iapply (inv_at X K (c, none)); iexact HC
    isplitl [Hc]; · iexact Hc
    isplitl [HO]; · iexact HO
    isplitr
    · iapply (mayWait_owed (F := F) c (.reg barS) _ hn); unfold Ctx; icases HC with ⟨-, HL⟩; iexact HL
    iexact Ha
  iintro ⟨HO, Ha, -, Hpay⟩
  ihave Hp := (Entails.of_eq (rest_bar X c)) $$ Hpay
  imod (Rounds.cell_close ER (Rd X) (Set.mem_univ (K (c, none))) (fun h => h) (R := 0 + 1) (duties_later X (barCell c))) $$ [Ha] with Hz
  · isplitr; · iapply (inv_at X K (c, none)); iexact HC
    iexact Ha
  iapply Hk $$ Hp Hz
  iexists _; iexact HO

/-! ## Loads, stores and adding -/

section Mem
variable {A R : ℕ} (M : Buf3 A R) {lo n : ℕ} {f : Cts F} {off size : Fin 3 → ℕ} {inb : ∀ a, off a + size a ≤ (S3 A R).size a}

theorem wp_ld1 {α : Type} {Q : α → sProp 𝕄} (ho : off = ![lo, 0, 0]) (hs : size = ![n, R, 512])
    {hl : M.view.LoadsAt (Rect.unit (s := S3 A R) off size inb).toLoadRect}
    {kk : ((Rect.unit (s := S3 A R) off size inb).toLoadRect.shape.Idx → Elt F .bf16) → Prog (TpuEff nD τ sig (Elt F) Λ₀ .tc) α} {P : sProp 𝕄} :
    iprop(slab c M lo n f ∗ P) ⊢ iprop(((slab c M lo n f ∗ P) -∗ WP c (kk fun j => f (lo + (j 0).val) (j 1).val (j 2).val) Q)
      -∗ WP c (Prog.lift (.load M (Rect.unit (s := S3 A R) off size inb).toLoadRect hl) >>= kk) Q) := by
  rw [lift_bind]
  iintro ⟨H, HP⟩ Hk
  iapply (wp_ld c M lo n ho hs ⟨le_refl _, le_refl _⟩) $$ H
  iintro H
  iapply Hk
  isplitl [H] <;> iassumption

theorem wp_ld2 {α : Type} {Q : α → sProp 𝕄} (ho : off = ![lo, 0, 0]) (hs : size = ![n, R, 512])
    {hl : M.view.LoadsAt (Rect.unit (s := S3 A R) off size inb).toLoadRect}
    {kk : ((Rect.unit (s := S3 A R) off size inb).toLoadRect.shape.Idx → Elt F .bf16) → Prog (TpuEff nD τ sig (Elt F) Λ₀ .tc) α} {P₀ P : sProp 𝕄} :
    iprop(P₀ ∗ slab c M lo n f ∗ P) ⊢ iprop(((P₀ ∗ slab c M lo n f ∗ P) -∗ WP c (kk fun j => f (lo + (j 0).val) (j 1).val (j 2).val) Q)
      -∗ WP c (Prog.lift (.load M (Rect.unit (s := S3 A R) off size inb).toLoadRect hl) >>= kk) Q) := by
  rw [lift_bind]
  iintro ⟨H0, H, HP⟩ Hk
  iapply (wp_ld c M lo n ho hs ⟨le_refl _, le_refl _⟩) $$ H
  iintro H
  iapply Hk
  isplitl [H0]; · iexact H0
  isplitl [H] <;> iassumption

theorem wp_st1 {α : Type} {Q : α → sProp 𝕄} (f' : Cts F) (ho : off = ![lo, 0, 0]) (hs : size = ![n, R, 512])
    {w : (Rect.unit (s := S3 A R) off size inb).shape.Idx → Elt F .bf16}
    {hx : (M.access (Rect.unit (s := S3 A R) off size inb)).Stores Finset.univ} {hm}
    (hw : ∀ j, w j = f' (lo + (j 0).val) (j 1).val (j 2).val)
    {kk : PUnit → Prog (TpuEff nD τ sig (Elt F) Λ₀ .tc) α} {P : sProp 𝕄} :
    iprop(slab c M lo n f ∗ P) ⊢ iprop(((slab c M lo n f' ∗ P) -∗ WP c (kk ⟨⟩) Q)
      -∗ WP c (Prog.lift (.store M (Rect.unit (s := S3 A R) off size inb) w Finset.univ hx hm) >>= kk) Q) := by
  rw [lift_bind]
  iintro ⟨H, HP⟩ Hk
  ihave H := slab_blk c M lo n f $$ H
  iapply (wp_st c M f' ho hs hw) $$ H
  iintro H
  iapply Hk
  isplitl [H] <;> iassumption

theorem wp_st2 {α : Type} {Q : α → sProp 𝕄} (f' : Cts F) (ho : off = ![lo, 0, 0]) (hs : size = ![n, R, 512])
    {w : (Rect.unit (s := S3 A R) off size inb).shape.Idx → Elt F .bf16}
    {hx : (M.access (Rect.unit (s := S3 A R) off size inb)).Stores Finset.univ} {hm}
    (hw : ∀ j, w j = f' (lo + (j 0).val) (j 1).val (j 2).val)
    {kk : PUnit → Prog (TpuEff nD τ sig (Elt F) Λ₀ .tc) α} {P₀ P : sProp 𝕄} :
    iprop(P₀ ∗ slab c M lo n f ∗ P) ⊢ iprop(((P₀ ∗ slab c M lo n f' ∗ P) -∗ WP c (kk ⟨⟩) Q)
      -∗ WP c (Prog.lift (.store M (Rect.unit (s := S3 A R) off size inb) w Finset.univ hx hm) >>= kk) Q) := by
  rw [lift_bind]
  iintro ⟨H0, H, HP⟩ Hk
  ihave H := slab_blk c M lo n f $$ H
  iapply (wp_st c M f' ho hs hw) $$ H
  iintro H
  iapply Hk
  isplitl [H0]; · iexact H0
  isplitl [H] <;> iassumption
end Mem

section Recv
variable (si : Fin 6) (k : Fin 3) {off size : Fin 3 → ℕ} {inb : ∀ a, off a + size a ≤ (S3 (nk k) (R si)).size a}

/-- A load from a filled landing buffer. -/
theorem wp_ldG1 {α : Type} {Q : α → sProp 𝕄} (a b : ℕ) (ho : off = ![a, 0, 0]) (hs : size = ![b, R si, 512]) (hin : a + b ≤ nk k)
    {hl : (recvM si k).view.LoadsAt (Rect.unit (s := S3 (nk k) (R si)) off size inb).toLoadRect}
    {kk : ((Rect.unit (s := S3 (nk k) (R si)) off size inb).toLoadRect.shape.Idx → Elt F .bf16) → Prog (TpuEff nD τ sig (Elt F) Λ₀ .tc) α} {P : sProp 𝕄} :
    iprop(Got X c si k ∗ P) ⊢ iprop(((Got X c si k ∗ P) -∗ WP c (kk fun j => Gc X si k c (a + (j 0).val) (j 1).val (j 2).val) Q)
      -∗ WP c (Prog.lift (.load (recvM si k) (Rect.unit (s := S3 (nk k) (R si)) off size inb).toLoadRect hl) >>= kk) Q) := by
  rw [lift_bind]
  unfold Got
  iintro ⟨⟨H, H1⟩, HP⟩ Hk
  iapply (wp_ld c (recvM si k) a b ho hs ⟨Nat.zero_le _, by omega⟩) $$ H
  iintro H
  iapply Hk
  isplitr [HP]
  · isplitl [H] <;> iassumption
  · iexact HP

theorem wp_ldG3 {α : Type} {Q : α → sProp 𝕄} (a b : ℕ) (ho : off = ![a, 0, 0]) (hs : size = ![b, R si, 512]) (hin : a + b ≤ nk k)
    {hl : (recvM si k).view.LoadsAt (Rect.unit (s := S3 (nk k) (R si)) off size inb).toLoadRect}
    {kk : ((Rect.unit (s := S3 (nk k) (R si)) off size inb).toLoadRect.shape.Idx → Elt F .bf16) → Prog (TpuEff nD τ sig (Elt F) Λ₀ .tc) α} {P₀ P₁ P : sProp 𝕄} :
    iprop(P₀ ∗ P₁ ∗ Got X c si k ∗ P)
      ⊢ iprop(((P₀ ∗ P₁ ∗ Got X c si k ∗ P) -∗ WP c (kk fun j => Gc X si k c (a + (j 0).val) (j 1).val (j 2).val) Q)
      -∗ WP c (Prog.lift (.load (recvM si k) (Rect.unit (s := S3 (nk k) (R si)) off size inb).toLoadRect hl) >>= kk) Q) := by
  iintro ⟨H0, H1, H⟩ Hk
  iapply (wp_ldG1 X c si k a b ho hs hin) $$ H
  iintro H
  iapply Hk
  isplitl [H0]; · iexact H0
  isplitl [H1] <;> iassumption
end Recv

/-- The kept run, what came at step `k` having come, cut in the run sent at step `j = k + 1` and the run kept. -/
theorem cut_next (si : Fin 6) (k j : Fin 3) (h : j.val = k.val + 1) (f : Cts F) {G P : sProp 𝕄} :
    iprop(G ∗ slab c (bufM si) (kept si k c) (nk k) f ∗ P)
      ⊢ iprop(slab c (bufM si) (sent si j c) (nk j) f ∗ slab c (bufM si) (kept si j c) (nk j) f ∗ G ∗ P) := by
  iintro ⟨HG, H, HP⟩
  ihave H := slab_split c (bufM si) (cut_kept si k j h c) f $$ H
  icases H with ⟨H1, H2⟩
  isplitl [H1]; · iexact H1
  isplitl [H2]; · iexact H2
  isplitl [HG] <;> iassumption

omit [FloatOps F] in
/-- The sum of a live run and what came for it is what it holds a step later. -/
theorem add_val [FloatOps F] (si : Fin 6) (k j : Fin 3) (hj : j.val = k.val + 1) {n a o : ℕ} (ha : a = kept si k c + o)
    (h : (S3 n (R si)).ShapeCasts (S3 n (R si))) (i : (S3 n (R si)).Idx) :
    shapeCast (S3 n (R si)) (addf (F := F) (φ := .bf16) (fun j => Pc X si k.val c (a + (j 0).val) (j 1).val (j 2).val)
        (fun j => Gc X si k c (o + (j 0).val) (j 1).val (j 2).val)) h i
      = Pc X si j.val c (a + (i 0).val) (i 1).val (i 2).val := by
  rw [shapeCast_self, hj, ha]
  exact congrArg (fun t => FloatOps.addf (F := F) (φ := .bf16) (Pc X si k.val c (kept si k c + o + (i 0).val) (i 1).val (i 2).val)
    (Pc X si k.val (nb (ax si k.val) c) t (i 1).val (i 2).val)) (Nat.add_assoc _ _ _).symm

/-! ## Packing -/

/-- The staged block of `x`. -/
def xPts : sProp 𝕄 := iprop(xM.view.loc (c : Thread nD τ) ↦[xM.view.setOn Finset.univ]{fullShare} (X c : Buf (Elt F) (xM.view.loc (c : Thread nD τ))))

theorem wp_ldx {α : Type} {Q : α → sProp 𝕄} (row col n : ℕ) {off size : Fin 3 → ℕ} {inb : ∀ a, off a + size a ≤ S1x512x4096.size a}
    (ho : off = ![0, row, col]) (hs : size = ![1, n, 512])
    {hl : xM.view.LoadsAt (Rect.unit (s := S1x512x4096) off size inb).toLoadRect}
    {kk : ((Rect.unit (s := S1x512x4096) off size inb).toLoadRect.shape.Idx → Elt F .bf16) → Prog (TpuEff nD τ sig (Elt F) Λ₀ .tc) α} :
    xPts X c ⊢ iprop((xPts X c -∗ WP c (kk fun j => xAt X c (row + (j 1).val) (col + (j 2).val)) Q)
      -∗ WP c (Prog.lift (.load xM (Rect.unit (s := S1x512x4096) off size inb).toLoadRect hl) >>= kk) Q) := by
  subst ho; subst hs
  rw [lift_bind]
  have hv : xM.view.readAt (Elt F) (Rect.unit (s := S1x512x4096) ![0, row, col] ![1, n, 512] inb).toLoadRect (X c : Buf (Elt F) (xM.view.loc (c : Thread nD τ)))
      = fun j => xAt X c (row + (j 1).val) (col + (j 2).val) := by
    funext j
    rw [View.readAt_apply]
    show X c _ = X c _
    congr 1
    funext a
    apply Fin.ext
    have h1 : row + n ≤ 512 := inb 1
    have h2 : col + 512 ≤ 4096 := inb 2
    have j0 : (j 0).val < 1 := (j 0).isLt
    have j1 : (j 1).val < n := (j 1).isLt
    have j2 : (j 2).val < 512 := (j 2).isLt
    fin_cases a
    · show 0 + 1 * (j 0).val = 0 % 1
      omega
    · show row + 1 * (j 1).val = (row + (j 1).val) % 512
      omega
    · show col + 1 * (j 2).val = (col + (j 2).val) % 4096
      omega
  have hsub : xM.view.setOn (Rect.unit (s := S1x512x4096) ![0, row, col] ![1, n, 512] inb).toLoadRect.set ⊆ xM.view.setOn Finset.univ :=
    Finset.map_subset_map.mpr (Finset.subset_univ _)
  unfold xPts
  iintro H Hk
  iapply (wp_load 𝒱₀ (c : Thread nD τ) none Set.univ (m := xM) hsub) $$ H
  iintro H
  rw [hv]
  iapply Hk; iexact H

/-- One slot is packed: its block of `x`'s columns loaded, the slot (needlessly) loaded, and stored. -/
theorem wp_slot {α : Type} {Q : α → sProp 𝕄} (si : Fin 6) (s : ℕ) {ox ob : Fin 3 → ℕ}
    {inx : ∀ a, ox a + (![1, R si, 512] : Fin 3 → ℕ) a ≤ S1x512x4096.size a} {inb : ∀ a, ob a + (![1, R si, 512] : Fin 3 → ℕ) a ≤ (S3 8 (R si)).size a}
    (hox : ox = ![0, row0 si, 512 * pos si s]) (hob : ob = ![s, 0, 0])
    {hlx : xM.view.LoadsAt (Rect.unit (s := S1x512x4096) ox ![1, R si, 512] inx).toLoadRect}
    {hlb : (bufM si).view.LoadsAt (Rect.unit (s := S3 8 (R si)) ob ![1, R si, 512] inb).toLoadRect}
    {p : ((S3 1 (R si)).Idx → Elt F .bf16) → (S3 1 (R si)).Idx → Elt F .bf16} (hp : ∀ v, p v = v)
    {hx : ((bufM si).access (Rect.unit (s := S3 8 (R si)) ob ![1, R si, 512] inb)).Stores Finset.univ} {hm}
    {kk : PUnit → Prog (TpuEff nD τ sig (Elt F) Λ₀ .tc) α} :
    iprop(xPts X c ∗ blk c (bufM si) s 1) ⊢ iprop((xPts X c -∗ slab c (bufM si) s 1 (Pc X si 0 c) -∗ WP c (kk ⟨⟩) Q)
      -∗ WP c (Prog.lift (.load xM (Rect.unit (s := S1x512x4096) ox ![1, R si, 512] inx).toLoadRect hlx) >>= fun v =>
          Prog.lift (.load (bufM si) (Rect.unit (s := S3 8 (R si)) ob ![1, R si, 512] inb).toLoadRect hlb) >>= fun _ =>
          Prog.lift (.store (bufM si) (Rect.unit (s := S3 8 (R si)) ob ![1, R si, 512] inb) (p v) Finset.univ hx hm) >>= kk) Q) := by
  iintro ⟨Hx, Hb⟩ Hk
  iapply (wp_ldx X c (row0 si) (512 * pos si s) (R si) hox rfl) $$ Hx
  iintro Hx
  rw [lift_bind]
  iapply (wp_ld_blk c (bufM si) s 1 hob rfl ⟨le_refl _, le_refl _⟩) $$ Hb
  iintro %v Hb
  rw [lift_bind, hp]
  iapply (wp_st c (bufM si) (Pc X si 0 c) hob rfl (by
    intro j
    have j0 : (j 0).val < 1 := (j 0).isLt
    show xAt X c (row0 si + (j 1).val) (512 * pos si s + (j 2).val) = xAt X c (row0 si + (j 1).val) (512 * pos si (s + (j 0).val) + (j 2).val)
    rw [show s + (j 0).val = s by omega])) $$ Hb
  iintro Hb
  iapply Hk $$ Hx Hb

open Classical in
/-- Four slots, packed if `d`. -/
def Pk (si : Fin 6) (t : ℕ) (d : Prop) : sProp 𝕄 :=
  if d then slab c (bufM si) t 4 (Pc X si 0 c) else blk c (bufM si) t 4

theorem Pk_blk (si : Fin 6) (t : ℕ) (d : Prop) : Pk X c si t d ⊢ blk c (bufM si) t 4 := by
  unfold Pk; split
  · exact slab_blk _ _ _ _ _
  · exact Entails.refl _
theorem Pk_done (si : Fin 6) (t : ℕ) {d : Prop} (h : d) : Pk X c si t d ⊢ slab c (bufM si) t 4 (Pc X si 0 c) := by
  unfold Pk; rw [if_pos h]
theorem Pk_none (si : Fin 6) (t : ℕ) : blk c (bufM si) t 4 ⊢ Pk X c si t False := by
  unfold Pk; rw [if_neg id]

set_option maxHeartbeats 1600000 in
/-- Four slots from `lo` are packed where the condition holds, `t` then being `lo`. -/
theorem wp_pack {α : Type} {Q : α → sProp 𝕄} (si : Fin 6) (t lo : ℕ) {d : Prop} {cnd : BitVec 1} (hc : cnd = 1#1 → t = lo)
    {ox ob ox₁ ob₁ ox₂ ob₂ ox₃ ob₃ : Fin 3 → ℕ} {inx inb inx₁ inb₁ inx₂ inb₂ inx₃ inb₃}
    (hox : ox = ![0, row0 si, 512 * pos si lo] ∧ ox₁ = ![0, row0 si, 512 * pos si (lo + 1)]
      ∧ ox₂ = ![0, row0 si, 512 * pos si (lo + 2)] ∧ ox₃ = ![0, row0 si, 512 * pos si (lo + 3)])
    (hob : ob = ![lo, 0, 0] ∧ ob₁ = ![lo + 1, 0, 0] ∧ ob₂ = ![lo + 2, 0, 0] ∧ ob₃ = ![lo + 3, 0, 0])
    {hlx hlb hlx₁ hlb₁ hlx₂ hlb₂ hlx₃ hlb₃}
    {p p₁ p₂ p₃ : ((S3 1 (R si)).Idx → Elt F .bf16) → (S3 1 (R si)).Idx → Elt F .bf16}
    (hp : (∀ v, p v = v) ∧ (∀ v, p₁ v = v) ∧ (∀ v, p₂ v = v) ∧ ∀ v, p₃ v = v)
    {hx hm hx₁ hm₁ hx₂ hm₂ hx₃ hm₃}
    {r : Prog (TpuEff nD τ sig (Elt F) Λ₀ .tc) α} :
    iprop(Pk X c si t d) ⊢ iprop(xPts X c -∗ (Pk X c si t (d ∨ cnd = 1#1) -∗ xPts X c -∗ WP c r Q)
      -∗ WP c (if h : cnd = 1#1 then
          Prog.lift (.load xM (Rect.unit (s := S1x512x4096) ox ![1, R si, 512] inx).toLoadRect hlx) >>= fun v =>
          Prog.lift (.load (bufM si) (Rect.unit (s := S3 8 (R si)) ob ![1, R si, 512] inb).toLoadRect hlb) >>= fun _ =>
          Prog.lift (.store (bufM si) (Rect.unit (s := S3 8 (R si)) ob ![1, R si, 512] inb) (p v) Finset.univ hx hm) >>= fun _ =>
          Prog.lift (.load xM (Rect.unit (s := S1x512x4096) ox₁ ![1, R si, 512] inx₁).toLoadRect hlx₁) >>= fun v₁ =>
          Prog.lift (.load (bufM si) (Rect.unit (s := S3 8 (R si)) ob₁ ![1, R si, 512] inb₁).toLoadRect hlb₁) >>= fun _ =>
          Prog.lift (.store (bufM si) (Rect.unit (s := S3 8 (R si)) ob₁ ![1, R si, 512] inb₁) (p₁ v₁) Finset.univ hx₁ hm₁) >>= fun _ =>
          Prog.lift (.load xM (Rect.unit (s := S1x512x4096) ox₂ ![1, R si, 512] inx₂).toLoadRect hlx₂) >>= fun v₂ =>
          Prog.lift (.load (bufM si) (Rect.unit (s := S3 8 (R si)) ob₂ ![1, R si, 512] inb₂).toLoadRect hlb₂) >>= fun _ =>
          Prog.lift (.store (bufM si) (Rect.unit (s := S3 8 (R si)) ob₂ ![1, R si, 512] inb₂) (p₂ v₂) Finset.univ hx₂ hm₂) >>= fun _ =>
          Prog.lift (.load xM (Rect.unit (s := S1x512x4096) ox₃ ![1, R si, 512] inx₃).toLoadRect hlx₃) >>= fun v₃ =>
          Prog.lift (.load (bufM si) (Rect.unit (s := S3 8 (R si)) ob₃ ![1, R si, 512] inb₃).toLoadRect hlb₃) >>= fun _ =>
          Prog.lift (.store (bufM si) (Rect.unit (s := S3 8 (R si)) ob₃ ![1, R si, 512] inb₃) (p₃ v₃) Finset.univ hx₃ hm₃) >>= fun _ => r
        else r) Q) := by
  obtain ⟨hp, hp₁, hp₂, hp₃⟩ := hp
  by_cases h : cnd = 1#1
  · obtain rfl := hc h
    rw [dif_pos h]
    iintro H Hx Hk
    ihave H := Pk_blk X c si t d $$ H
    ihave H := blk_split c (bufM si) (l₁ := t) (n₁ := 1) (l₂ := t + 1) (n₂ := 3) (by unfold Cut; omega) $$ H
    icases H with ⟨H0, H⟩
    ihave H := blk_split c (bufM si) (l₁ := t + 1) (n₁ := 1) (l₂ := t + 2) (n₂ := 2) (by unfold Cut; omega) $$ H
    icases H with ⟨H1, H⟩
    ihave H := blk_split c (bufM si) (l₁ := t + 2) (n₁ := 1) (l₂ := t + 3) (n₂ := 1) (by unfold Cut; omega) $$ H
    icases H with ⟨H2, H3⟩
    iapply (wp_slot X c si t hox.1 hob.1 hp) $$ [Hx H0]
    · isplitl [Hx] <;> iassumption
    iintro Hx H0
    iapply (wp_slot X c si (t + 1) hox.2.1 hob.2.1 hp₁) $$ [Hx H1]
    · isplitl [Hx] <;> iassumption
    iintro Hx H1
    iapply (wp_slot X c si (t + 2) hox.2.2.1 hob.2.2.1 hp₂) $$ [Hx H2]
    · isplitl [Hx] <;> iassumption
    iintro Hx H2
    iapply (wp_slot X c si (t + 3) hox.2.2.2 hob.2.2.2 hp₃) $$ [Hx H3]
    · isplitl [Hx] <;> iassumption
    iintro Hx H3
    iapply Hk $$ [H0 H1 H2 H3] Hx
    unfold Pk; rw [if_pos (Or.inr h)]
    iapply (slab_join c (bufM si) (l₁ := t) (n₁ := 1) (l₂ := t + 1) (n₂ := 3) (by unfold Cut; omega) _)
    isplitl [H0]; · iexact H0
    iapply (slab_join c (bufM si) (l₁ := t + 1) (n₁ := 1) (l₂ := t + 2) (n₂ := 2) (by unfold Cut; omega) _)
    isplitl [H1]; · iexact H1
    iapply (slab_join c (bufM si) (l₁ := t + 2) (n₁ := 1) (l₂ := t + 3) (n₂ := 1) (by unfold Cut; omega) _)
    isplitl [H2] <;> iassumption
  · rw [dif_neg h]
    iintro H Hx Hk
    have e : (d ∨ cnd = 1#1) = d := propext ⟨fun o => o.resolve_right h, Or.inl⟩
    rw [e]
    iapply Hk $$ H Hx

/-! ## The result -/

/-- The piece a row is of. -/
def pieceOf (r : ℕ) : Fin 6 :=
  if r < 112 then 0 else if r < 176 then 3 else if r < 288 then 1 else if r < 352 then 4 else if r < 448 then 2 else 5

theorem pieceOf_iff (si : Fin 6) {r : ℕ} (h : r < 512) : pieceOf r = si ↔ row0 si ≤ r ∧ r < row0 si + R si := by
  unfold pieceOf
  fin_cases si <;> (simp only [row0, R]; split_ifs <;> simp <;> omega)

/-- What device `c` computes. -/
def outAt : S512x512.Idx → Elt F .bf16 := fun i =>
  Pc X (pieceOf (i 0).val) 3 c (kept (pieceOf (i 0).val) 2 c) ((i 0).val - row0 (pieceOf (i 0).val)) (i 1).val

/-- The staged result, its first `n` pieces written. -/
def Out (n : ℕ) : sProp 𝕄 :=
  iprop(∃ g : Buf (Elt F) (oM.view.loc (c : Thread nD τ)), ⌜∀ i : S512x512.Idx, (pieceOf (i 0).val).val < n → oM.view.read (Elt F) g i = outAt X c i⌝
    ∗ (oM.view.loc (c : Thread nD τ) ↦[oM.view.setOn Finset.univ]{fullShare} g))

theorem wp_ldo {α : Type} {Q : α → sProp 𝕄} (n : ℕ) {r : Rect S512x512} {hl : oM.view.LoadsAt r.toLoadRect}
    {kk : (r.toLoadRect.shape.Idx → Elt F .bf16) → Prog (TpuEff nD τ sig (Elt F) Λ₀ .tc) α} :
    Out X c n ⊢ iprop((∀ v, Out X c n -∗ WP c (kk v) Q) -∗ WP c (Prog.lift (.load oM r.toLoadRect hl) >>= kk) Q) := by
  rw [lift_bind]
  have hsub : oM.view.setOn r.toLoadRect.set ⊆ oM.view.setOn Finset.univ := Finset.map_subset_map.mpr (Finset.subset_univ _)
  unfold Out
  iintro ⟨%g, %hg, H⟩ Hk
  iapply (wp_load 𝒱₀ (c : Thread nD τ) none Set.univ (m := oM) hsub) $$ H
  iintro H
  iapply Hk
  iexists g; isplitr
  · ipureintro; exact hg
  · iexact H

theorem wp_sto {α : Type} {Q : α → sProp 𝕄} (si : Fin 6) {off size : Fin 2 → ℕ} {inb : ∀ a, off a + size a ≤ S512x512.size a}
    (ho : off = ![row0 si, 0]) (hs : size = ![R si, 512])
    {w : (Rect.unit (s := S512x512) off size inb).shape.Idx → Elt F .bf16}
    {hx : (oM.access (Rect.unit (s := S512x512) off size inb)).Stores Finset.univ} {hm}
    (hw : ∀ j, w j = Pc X si 3 c (kept si 2 c) (j 0).val (j 1).val)
    {kk : PUnit → Prog (TpuEff nD τ sig (Elt F) Λ₀ .tc) α} :
    Out X c si.val ⊢ iprop((Out X c (si.val + 1) -∗ WP c (kk ⟨⟩) Q)
      -∗ WP c (Prog.lift (.store oM (Rect.unit (s := S512x512) off size inb) w Finset.univ hx hm) >>= kk) Q) := by
  subst ho; subst hs
  rw [lift_bind]
  have hsub : (oM.access (Rect.unit (s := S512x512) ![row0 si, 0] ![R si, 512] inb)).setOn Finset.univ ⊆ oM.view.setOn Finset.univ := by
    rw [View.setOn_univ, View.setOn_univ]; exact View.set_slice_subset _ _
  unfold Out
  iintro ⟨%g, %hg, H⟩ Hk
  iapply (wp_store 𝒱₀ (c : Thread nD τ) none Set.univ (m := oM) (r := Rect.unit (s := S512x512) ![row0 si, 0] ![R si, 512] inb)
    (w := w) (Mk := Finset.univ) hsub) $$ H
  iintro H
  iapply Hk
  iexists _; isplitr
  swap
  · iexact H
  · ipureintro
    intro i hi
    have hi0 : (i 0).val < 512 := (i 0).isLt
    by_cases hp : pieceOf (i 0).val = si
    · have hr := (pieceOf_iff si hi0).mp hp
      have hmem : i ∈ (Rect.unit (s := S512x512) ![row0 si, 0] ![R si, 512] inb).set := by
        rw [Rect.mem_set_unit]; intro a
        have h1 : (i 1).val < 512 := (i 1).isLt
        fin_cases a
        · exact hr
        · exact ⟨Nat.zero_le _, by simpa using h1⟩
      rw [← Rect.map_emb_univ] at hmem
      obtain ⟨j, -, rfl⟩ := Finset.mem_map.mp hmem
      refine (View.read_slice_write_emb (v := oM.view) _ _ _ (Finset.mem_univ j)).trans ?_
      rw [hw]
      unfold outAt
      rw [hp]
      simp only [Rect.emb_apply]
      show _ = Pc X si 3 c (kept si 2 c) (row0 si + 1 * (j 0).val - row0 si) (0 + 1 * (j 1).val)
      rw [Nat.one_mul, Nat.one_mul, Nat.zero_add, Nat.add_sub_cancel_left]
    · refine (View.read_slice_write_of_not_mem (v := oM.view) _ _ _ _ ?_).trans (hg i ?_)
      · rw [Rect.map_emb_univ, Rect.mem_set_unit]
        intro h
        exact hp ((pieceOf_iff si hi0).mpr (h 0))
      · have : (pieceOf (i 0).val).val ≠ si.val := fun e => hp (Fin.ext e)
        omega

/-- What is written: the kept slot plus what came for it, the leading unit axis dropped. -/
theorem out_val (si : Fin 6) (h h') (i : (⟨2, ![R si, 512]⟩ : Shape).Idx) :
    addf (F := F) (φ := .bf16) (shapeCast ⟨2, ![R si, 512]⟩ (fun j : (S3 1 (R si)).Idx => Pc X si 2 c (kept si 2 c + (j 0).val) (j 1).val (j 2).val) h)
      (shapeCast ⟨2, ![R si, 512]⟩ (fun j : (S3 1 (R si)).Idx => Gc X si 2 c (0 + (j 0).val) (j 1).val (j 2).val) h') i
      = Pc X si 3 c (kept si 2 c) (i 0).val (i 1).val := by
  obtain ⟨a, b, rfl⟩ : ∃ a b, i = ValueIdx.ix2 a b := ⟨i 0, i 1, Shape.idx_ext₂ rfl rfl⟩
  show FloatOps.addf (F := F) (φ := .bf16) (shapeCast _ _ h (ValueIdx.ix2 a b)) (shapeCast _ _ h' (ValueIdx.ix2 a b)) = _
  rw [ValueIdx.shapeCast_1ab_ab_apply, ValueIdx.shapeCast_1ab_ab_apply]
  rfl

end Steps

end Cert.Cube

end
-- ==== Proof.Parts.lean ====
/-
# 01_k — `Parts`: the parts of the body

The kernel's body is printed in parts, run in order. For each part: from the states of the pieces it touches to
their states after it, whatever is to follow.
-/
module

public import proofs.«01_k».proof.Proof.Steps

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part at the kernel's memrefs and semaphores. -/
abbrev on {γ : Type 1} (p :
    (m0 : Memref sig .tc .vmem S1x512x4096 .bf16) → m0.IsWhole → (m1 : Memref sig .tc .vmem S512x512 .bf16) → m1.IsWhole →
    (m2 : Memref sig .tc .vmem S8x112x512 .bf16) → m2.IsWhole → (m3 : Memref sig .tc .vmem S4x112x512 .bf16) → m3.IsWhole →
    (m4 : Memref sig .tc .vmem S2x112x512 .bf16) → m4.IsWhole → (m5 : Memref sig .tc .vmem S1x112x512 .bf16) → m5.IsWhole →
    (m6 : Memref sig .tc .vmem S8x112x512 .bf16) → m6.IsWhole → (m7 : Memref sig .tc .vmem S4x112x512 .bf16) → m7.IsWhole →
    (m8 : Memref sig .tc .vmem S2x112x512 .bf16) → m8.IsWhole → (m9 : Memref sig .tc .vmem S1x112x512 .bf16) → m9.IsWhole →
    (m10 : Memref sig .tc .vmem S8x96x512 .bf16) → m10.IsWhole → (m11 : Memref sig .tc .vmem S4x96x512 .bf16) → m11.IsWhole →
    (m12 : Memref sig .tc .vmem S2x96x512 .bf16) → m12.IsWhole → (m13 : Memref sig .tc .vmem S1x96x512 .bf16) → m13.IsWhole →
    (m14 : Memref sig .tc .vmem S8x64x512 .bf16) → m14.IsWhole → (m15 : Memref sig .tc .vmem S4x64x512 .bf16) → m15.IsWhole →
    (m16 : Memref sig .tc .vmem S2x64x512 .bf16) → m16.IsWhole → (m17 : Memref sig .tc .vmem S1x64x512 .bf16) → m17.IsWhole →
    (m18 : Memref sig .tc .vmem S8x64x512 .bf16) → m18.IsWhole → (m19 : Memref sig .tc .vmem S4x64x512 .bf16) → m19.IsWhole →
    (m20 : Memref sig .tc .vmem S2x64x512 .bf16) → m20.IsWhole → (m21 : Memref sig .tc .vmem S1x64x512 .bf16) → m21.IsWhole →
    (m22 : Memref sig .tc .vmem S8x64x512 .bf16) → m22.IsWhole → (m23 : Memref sig .tc .vmem S4x64x512 .bf16) → m23.IsWhole →
    (m24 : Memref sig .tc .vmem S2x64x512 .bf16) → m24.IsWhole → (m25 : Memref sig .tc .vmem S1x64x512 .bf16) → m25.IsWhole →
    DmaSems sig S6x3 → DmaSems sig S6x3 → γ) : γ :=
  p
    (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    (Memref.whole cc0_scratch14) (Memref.isWhole_whole _) (Memref.whole cc0_scratch15) (Memref.isWhole_whole _)
    (Memref.whole cc0_scratch16) (Memref.isWhole_whole _) (Memref.whole cc0_scratch17) (Memref.isWhole_whole _)
    (Memref.whole cc0_scratch18) (Memref.isWhole_whole _) (Memref.whole cc0_scratch19) (Memref.isWhole_whole _)
    (Memref.whole cc0_scratch20) (Memref.isWhole_whole _) (Memref.whole cc0_scratch21) (Memref.isWhole_whole _)
    (Memref.whole cc0_scratch22) (Memref.isWhole_whole _) (Memref.whole cc0_scratch23) (Memref.isWhole_whole _)
    cc0_scratch24 cc0_scratch25

/-- The run of piece `si` sent at step `j`, with its contents after `k` exchanges; and the run kept at step `j`. -/
abbrev Sl (X : Dev nD → S1x512x4096.Idx → Elt F .bf16) (c : Dev nD) (si : Fin 6) (j k : Fin 3) : sProp 𝕄 :=
  slab c (bufM si) (sent si j c) (nk j) (Pc X si k.val c)
abbrev Kp (X : Dev nD → S1x512x4096.Idx → Elt F .bf16) (c : Dev nD) (si : Fin 6) (j k : Fin 3) : sProp 𝕄 :=
  slab c (bufM si) (kept si j c) (nk j) (Pc X si k.val c)

theorem wp_pure (c : Dev nD) {α : Type} {Q : α → sProp 𝕄} (a : α) : Q a ⊢ WP (F := F) c (pure a) Q := by
  iintro H
  iapply (Entails.of_eq (wp_ret ..).symm)
  imodintro
  iexact H

/-- The kernel's test of a word against another, and device `c`'s bit along `a` as a word. -/
abbrev is (v e : BitVec 32) : BitVec 1 := Scalar.cmpi .ne (Scalar.extui (Scalar.cmpi .eq v e)) 0#32
abbrev wd (a : Fin 3) (c : Dev nD) : BitVec 32 := BitVec.ofNat 32 (bit a c)

theorem wp_dev (c : Dev nD) {α : Type} {Q : α → sProp 𝕄} {kk : Dev nD → Prog (TpuEff nD τ sig (Elt F) Λ₀ .tc) α} :
    WP c (kk c) Q ⊢ WP c (Prog.lift .deviceId >>= kk) Q :=
  Entails.of_eq (wp_deviceId ..).symm

/-- A packed slot is stored as loaded: two reshapes there and back. -/
theorem packed {s t : Shape} {h₁ h₃ h₅ h₇ : s.ShapeCasts t} {h₂ h₄ h₆ h₈ : t.ShapeCasts s} :
    (∀ v : s.Idx → Elt F .bf16, shapeCast s (shapeCast t v h₁) h₂ = v) ∧ (∀ v : s.Idx → Elt F .bf16, shapeCast s (shapeCast t v h₃) h₄ = v)
      ∧ (∀ v : s.Idx → Elt F .bf16, shapeCast s (shapeCast t v h₅) h₆ = v) ∧ ∀ v : s.Idx → Elt F .bf16, shapeCast s (shapeCast t v h₇) h₈ = v :=
  ⟨fun _ => shapeCast_shapeCast _ _ _, fun _ => shapeCast_shapeCast _ _ _, fun _ => shapeCast_shapeCast _ _ _, fun _ => shapeCast_shapeCast _ _ _⟩

/-- A packed run, sent or kept at the first step. -/
theorem Pk_Sl (X : Dev nD → S1x512x4096.Idx → Elt F .bf16) (c : Dev nD) (si : Fin 6) {d : Prop} (h : d) : Pk X c si (sent si 0 c) d ⊢ Sl X c si 0 0 := Pk_done X c si _ h
theorem Pk_Kp (X : Dev nD → S1x512x4096.Idx → Elt F .bf16) (c : Dev nD) (si : Fin 6) {d : Prop} (h : d) : Pk X c si (kept si 0 c) d ⊢ Kp X c si 0 0 := Pk_done X c si _ h

theorem Pk_congr (X : Dev nD → S1x512x4096.Idx → Elt F .bf16) (c : Dev nD) (si : Fin 6) {t : ℕ} {d d' : Prop} (h : d ↔ d') : Pk X c si t d ⊢ Pk X c si t d' := by
  rw [propext h]

set_option maxHeartbeats 1600000 in
/-- The first step's transfer. -/
theorem wp_send0 (X : Dev nD → S1x512x4096.Idx → Elt F .bf16) (K : Dev nD × Option (Fin 36) → ℕ) (c : Dev nD) {α : Type} {Q : α → sProp 𝕄}
    (si : Fin 6) (n : ℕ) (hn : sched[n]? = some (.recv si 0))
    {off : Fin 3 → ℕ} {inb : ∀ a, off a + (![nk 0, R si, 512] : Fin 3 → ℕ) a ≤ (S3 8 (R si)).size a} {hu} {d : Dev nD} {sS sR : DmaSem sig}
    (hd : d = nb (ax si (0 : Fin 3).val) c) (ho : off = ![sent si 0 c, 0, 0])
    (hsS : sS = sendS si 0) (hsR : sR = recvS si 0)
    {hsc : (recvM si 0 : Memref sig (Dev.tc d : Thread nD τ).2.kind .vmem (S3 (nk 0) (R si)) .bf16).view.ref.isScScratch = false}
    {hsrc : ((bufM si).slice (Rect.unit (s := S3 8 (R si)) off ![nk 0, R si, 512] inb) hu).view.WordExact}
    {hdst : (recvM si 0).view.WordExact}
    {hsem : DmaTarget.Typed .vmem (.dma sR) (.remote (Dev.tc d : Thread nD τ) (recvM si 0) (.dma sS) hsc)}
    {kk : PUnit → Prog (TpuEff nD τ sig (Elt F) Λ₀ .tc) α} :
    Ctx X K ⊢ iprop(Sl X c si 0 0 -∗ Rdy c si 0 -∗ Owes c n -∗ (Fly c si 0 -∗ Owes c (n + 1) -∗ WP c (kk ⟨⟩) Q)
        -∗ WP c (Prog.lift (.enqueueDma ((bufM si).slice (Rect.unit (s := S3 8 (R si)) off ![nk 0, R si, 512] inb) hu)
            (.remote (Dev.tc d : Thread nD τ) (recvM si 0) (.dma sS) hsc) (.dma sR) hsrc hdst hsem) >>= kk) Q) := by
  iintro #HC S R HO Hk
  iapply (wp_send X K c si 0 n hn hd ho hsS hsR (P := iprop(emp))) $$ HC [S] R HO
  · isplitl; · iexact S
    iempintro
  iintro ⟨F, -⟩ HO
  iapply Hk $$ F HO

section Adds
variable (X : Dev nD → S1x512x4096.Idx → Elt F .bf16) (c : Dev nD) (si : Fin 6) (k j : Fin 3) (hj : j.val = k.val + 1)
  {off offG : Fin 3 → ℕ} {inb : ∀ a, off a + ![nk j, R si, 512] a ≤ (S3 8 (R si)).size a}
  {inbG : ∀ a, offG a + ![nk j, R si, 512] a ≤ (S3 (nk k) (R si)).size a}
  {p : ((S3 (nk j) (R si)).Idx → Elt F .bf16) → ((S3 (nk j) (R si)).Idx → Elt F .bf16) → (S3 (nk j) (R si)).Idx → Elt F .bf16}
  (hp : ∃ hsc, ∀ v w, p v w = shapeCast (S3 (nk j) (R si)) (addf (F := F) (φ := .bf16) v w) hsc)
include hj hp

theorem wp_addA (ho : off = ![sent si j c, 0, 0]) (hg : offG = ![sent si j c - kept si k c, 0, 0])
    (he : kept si k c ≤ sent si j c ∧ sent si j c - kept si k c + nk j ≤ nk k)
    {α : Type} {Q : α → sProp 𝕄} {h₁ h₂ h₃ h₄ h₅} {kk : PUnit → Prog (TpuEff nD τ sig (Elt F) Λ₀ .tc) α} {P : sProp 𝕄} :
    iprop(Sl X c si j k ∗ Kp X c si j k ∗ Got X c si k ∗ P)
      ⊢ iprop(((Sl X c si j j ∗ Kp X c si j k ∗ Got X c si k ∗ P)
          -∗ WP c (kk ⟨⟩) Q)
        -∗ WP c (Prog.lift (.load (bufM si) (Rect.unit (s := S3 8 (R si)) off ![nk j, R si, 512] inb).toLoadRect h₁) >>= fun v =>
            Prog.lift (.load (recvM si k) (Rect.unit (s := S3 (nk k) (R si)) offG ![nk j, R si, 512] inbG).toLoadRect h₂) >>= fun w =>
            Prog.lift (.load (bufM si) (Rect.unit (s := S3 8 (R si)) off ![nk j, R si, 512] inb).toLoadRect h₃) >>= fun _ =>
            Prog.lift (.store (bufM si) (Rect.unit (s := S3 8 (R si)) off ![nk j, R si, 512] inb) (p v w) Finset.univ h₄ h₅) >>= kk) Q) := by
  obtain ⟨hsc, hp⟩ := hp
  iintro H Hk
  iapply (wp_ld1 c (bufM si) ho rfl) $$ H
  iintro H
  iapply (wp_ldG3 X c si k _ (nk j) hg rfl he.2) $$ H
  iintro H
  iapply (wp_ld1 c (bufM si) ho rfl) $$ H
  iintro H
  iapply (wp_st1 c (bufM si) (Pc X si j.val c) ho rfl (fun i => by rw [hp]; exact add_val X c si k j hj (Nat.add_sub_cancel' he.1).symm hsc i)) $$ H
  iintro H
  iapply Hk $$ H

theorem wp_addB (ho : off = ![kept si j c, 0, 0]) (hg : offG = ![kept si j c - kept si k c, 0, 0])
    (he : kept si k c ≤ kept si j c ∧ kept si j c - kept si k c + nk j ≤ nk k)
    {α : Type} {Q : α → sProp 𝕄} {h₁ h₂ h₃ h₄ h₅} {kk : PUnit → Prog (TpuEff nD τ sig (Elt F) Λ₀ .tc) α} {P₀ P : sProp 𝕄} :
    iprop(P₀ ∗ Kp X c si j k ∗ Got X c si k ∗ P)
      ⊢ iprop(((P₀ ∗ Kp X c si j j ∗ Got X c si k ∗ P) -∗ WP c (kk ⟨⟩) Q)
        -∗ WP c (Prog.lift (.load (bufM si) (Rect.unit (s := S3 8 (R si)) off ![nk j, R si, 512] inb).toLoadRect h₁) >>= fun v =>
            Prog.lift (.load (recvM si k) (Rect.unit (s := S3 (nk k) (R si)) offG ![nk j, R si, 512] inbG).toLoadRect h₂) >>= fun w =>
            Prog.lift (.load (bufM si) (Rect.unit (s := S3 8 (R si)) off ![nk j, R si, 512] inb).toLoadRect h₃) >>= fun _ =>
            Prog.lift (.store (bufM si) (Rect.unit (s := S3 8 (R si)) off ![nk j, R si, 512] inb) (p v w) Finset.univ h₄ h₅) >>= kk) Q) := by
  obtain ⟨hsc, hp⟩ := hp
  iintro H Hk
  iapply (wp_ld2 c (bufM si) ho rfl) $$ H
  iintro H
  iapply (wp_ldG3 X c si k _ (nk j) hg rfl he.2) $$ H
  iintro H
  iapply (wp_ld2 c (bufM si) ho rfl) $$ H
  iintro H
  iapply (wp_st2 c (bufM si) (Pc X si j.val c) ho rfl (fun i => by rw [hp]; exact add_val X c si k j hj (Nat.add_sub_cancel' he.1).symm hsc i)) $$ H
  iintro H
  iapply Hk $$ H
end Adds

/-- What part 1 returns, its words read as the device's bits. -/
theorem ret1 {c : Dev nD} {v2 a b d : BitVec 32} {e : BitVec 1} (ha : a = wd 0 c) (hb : b = wd 1 c) (hd : d = wd 2 c) (he : e = is (wd 0 c) 1#32) :
    (⟨c, v2, wd 0 c, wd 1 c, wd 2 c, is (wd 0 c) 1#32⟩
      : Σ' (_ : Dev nD) (_ : BitVec 32) (_ : BitVec 32) (_ : BitVec 32) (_ : BitVec 32), BitVec 1) = ⟨c, v2, a, b, d, e⟩ := by
  subst ha hb hd he; rfl

section Parts
variable (X : Dev nD → S1x512x4096.Idx → Elt F .bf16) (K : Dev nD × Option (Fin 36) → ℕ) (c : Dev nD)

set_option maxHeartbeats 800000 in
theorem part1 {Q} :
    Ctx X K ⊢ iprop((dutyTok ER (barCell (nb 0 c)) 0 (0 : Fin 3) ∗ barPay (nb 0 c) 0) -∗ (dutyTok ER (barCell (nb 1 c)) 0 (1 : Fin 3) ∗ barPay (nb 1 c) 1)
        -∗ (dutyTok ER (barCell (nb 2 c)) 0 (2 : Fin 3) ∗ barPay (nb 2 c) 2)
        -∗ (atPos ER (barCell c) 0 ∅ 0 ∗ cred (tallyAt (barCell c) () 3)) -∗ Owes c 0 -∗ Pk X c 0 (sent 0 0 c) False -∗ xPts X c
        -∗ ((barPay c 0 ∗ barPay c 1 ∗ barPay c 2) -∗ semVal (barCell c) 0 -∗ Owes c 3
          -∗ Pk X c 0 (sent 0 0 c) (False ∨ is (wd 0 c) 0#32 = 1#1) -∗ xPts X c -∗ ∀ v2, Q ⟨c, v2, wd 0 c, wd 1 c, wd 2 c, is (wd 0 c) 1#32⟩)
        -∗ WP c (on (k0_part1 (F := F))) Q) := by
  rw [k0_part1_eq_skeleton]; unfold on k0_part1_skel
  iintro #HC H0 H1 H2 Hb HO S0 Hx Hk
  iapply (wp_dev c)
  extract_lets
  iapply (wp_bar X K c 0 0 rfl (by revert c; decide)) $$ HC H0 HO
  iintro HO
  iapply (wp_bar X K c 1 1 rfl (by revert c; decide)) $$ HC H1 HO
  iintro HO
  iapply (wp_bar X K c 2 2 rfl (by revert c; decide)) $$ HC H2 HO
  iintro HO
  iapply (wp_barWait X K c 3 (by decide)) $$ HC Hb HO
  iintro HB Hv HO
  iapply (wp_pack X c 0 (sent 0 0 c) 4 (by revert c; decide) (by decide) (by decide) (by exact packed)) $$ S0 Hx
  iintro S0 Hx
  rename_i jp
  dsimp only [jp]
  iapply (wp_pure c _)
  iapply (Entails.of_eq (congrArg Q (ret1 (by revert c; decide) (by revert c; decide) (by revert c; decide) (by revert c; decide))))
  ihave S0 := (Pk_congr X c 0 (d' := False ∨ is (wd 0 c) 0#32 = 1#1) (by revert c; decide)) $$ S0
  iapply Hk $$ HB Hv HO S0 Hx

theorem part2 {Q} (v2 : BitVec 32) :
    Ctx X K ⊢ iprop(Owes c 3 -∗ Pk X c 0 (sent 0 0 c) (False ∨ is (wd 0 c) 0#32 = 1#1) -∗ Rdy c 0 0 -∗ Pk X c 1 (sent 1 0 c) False -∗ xPts X c
        -∗ (Owes c 4 -∗ Fly c 0 0 -∗ Sl X c 1 0 0 -∗ xPts X c -∗ ∀ r, Q r)
        -∗ WP c (on (k0_part2 (F := F)) c v2 (wd 0 c) (wd 1 c) (is (wd 0 c) 1#32)) Q) := by
  rw [k0_part2_eq_skeleton]; unfold on k0_part2_skel
  iintro #HC HO S0 R0 S1 Hx Hk
  extract_lets
  rename_i j3 j2 j1
  iapply (wp_pack X c 0 (sent 0 0 c) 0 (by revert c; decide) (by decide) (by decide) (by exact packed)) $$ S0 Hx
  iintro S0 Hx
  dsimp only [j1]
  ihave S0 := (Pk_Sl X c 0 (by revert c; decide)) $$ S0
  iapply (wp_send0 X K c 0 3 rfl (by revert c; decide) (by revert c; decide) (by exact rfl) (by exact rfl)) $$ HC S0 R0 HO
  iintro F0 HO
  iapply (wp_pack X c 1 (sent 1 0 c) 4 (by revert c; decide) (by decide) (by decide) (by exact packed)) $$ S1 Hx
  iintro S1 Hx
  dsimp only [j2]
  iapply (wp_pack X c 1 (sent 1 0 c) 0 (by revert c; decide) (by decide) (by decide) (by exact packed)) $$ S1 Hx
  iintro S1 Hx
  dsimp only [j3]
  ihave S1 := (Pk_Sl X c 1 (by revert c; decide)) $$ S1
  iapply (wp_pure c _)
  iapply Hk $$ HO F0 S1 Hx

theorem part3 {Q} (v2 v52 c0 : BitVec 32) :
    Ctx X K ⊢ iprop(Owes c 4 -∗ Sl X c 1 0 0 -∗ Rdy c 1 0 -∗ Pk X c 2 (sent 2 0 c) False -∗ Rdy c 2 0 -∗ Pk X c 3 (sent 3 0 c) False -∗ xPts X c
        -∗ (Owes c 6 -∗ Fly c 1 0 -∗ Fly c 2 0 -∗ Pk X c 3 (sent 3 0 c) (False ∨ is (wd 0 c) 0#32 = 1#1) -∗ xPts X c
          -∗ ∀ a b, Q ⟨a, b, is (wd 0 c) 1#32⟩)
        -∗ WP c (on (k0_part3 (F := F)) c v2 (wd 0 c) (wd 2 c) v52 c0) Q) := by
  rw [k0_part3_eq_skeleton]; unfold on k0_part3_skel
  iintro #HC HO S1 R1 S2 R2 S3 Hx Hk
  extract_lets
  rename_i j3 j2 j1
  iapply (wp_send0 X K c 1 4 rfl (by revert c; decide) (by revert c; decide) (by exact rfl) (by exact rfl)) $$ HC S1 R1 HO
  iintro F1 HO
  iapply (wp_pack X c 2 (sent 2 0 c) 4 (by revert c; decide) (by decide) (by decide) (by exact packed)) $$ S2 Hx
  iintro S2 Hx
  dsimp only [j1]
  iapply (wp_pack X c 2 (sent 2 0 c) 0 (by revert c; decide) (by decide) (by decide) (by exact packed)) $$ S2 Hx
  iintro S2 Hx
  dsimp only [j2]
  ihave S2 := (Pk_Sl X c 2 (by revert c; decide)) $$ S2
  iapply (wp_send0 X K c 2 5 rfl (by revert c; decide) (by revert c; decide) (by exact rfl) (by exact rfl)) $$ HC S2 R2 HO
  iintro F2 HO
  iapply (wp_pack X c 3 (sent 3 0 c) 4 (by revert c; decide) (by decide) (by decide) (by exact packed)) $$ S3 Hx
  iintro S3 Hx
  dsimp only [j3]
  iapply (wp_pure c _)
  iapply Hk $$ HO F1 F2 S3 Hx

theorem part4 {Q} (v2 : BitVec 32) :
    Ctx X K ⊢ iprop(Owes c 6 -∗ Pk X c 3 (sent 3 0 c) (False ∨ is (wd 0 c) 0#32 = 1#1) -∗ Rdy c 3 0 -∗ Pk X c 4 (sent 4 0 c) False -∗ xPts X c
        -∗ (Owes c 7 -∗ Fly c 3 0 -∗ Sl X c 4 0 0 -∗ xPts X c -∗ ∀ r, Q r)
        -∗ WP c (on (k0_part4 (F := F)) c v2 (wd 0 c) (wd 1 c) (is (wd 0 c) 1#32)) Q) := by
  rw [k0_part4_eq_skeleton]; unfold on k0_part4_skel
  iintro #HC HO S3 R3 S4 Hx Hk
  extract_lets
  rename_i j3 j2 j1
  iapply (wp_pack X c 3 (sent 3 0 c) 0 (by revert c; decide) (by decide) (by decide) (by exact packed)) $$ S3 Hx
  iintro S3 Hx
  dsimp only [j1]
  ihave S3 := (Pk_Sl X c 3 (by revert c; decide)) $$ S3
  iapply (wp_send0 X K c 3 6 rfl (by revert c; decide) (by revert c; decide) (by exact rfl) (by exact rfl)) $$ HC S3 R3 HO
  iintro F3 HO
  iapply (wp_pack X c 4 (sent 4 0 c) 4 (by revert c; decide) (by decide) (by decide) (by exact packed)) $$ S4 Hx
  iintro S4 Hx
  dsimp only [j2]
  iapply (wp_pack X c 4 (sent 4 0 c) 0 (by revert c; decide) (by decide) (by decide) (by exact packed)) $$ S4 Hx
  iintro S4 Hx
  dsimp only [j3]
  ihave S4 := (Pk_Sl X c 4 (by revert c; decide)) $$ S4
  iapply (wp_pure c _)
  iapply Hk $$ HO F3 S4 Hx

theorem part5 {Q} (v2 v109 c0 : BitVec 32) :
    Ctx X K ⊢ iprop(Owes c 7 -∗ Sl X c 4 0 0 -∗ Rdy c 4 0 -∗ Pk X c 5 (sent 5 0 c) False -∗ Rdy c 5 0 -∗ Pk X c 0 (kept 0 0 c) False -∗ xPts X c
        -∗ (Owes c 9 -∗ Fly c 4 0 -∗ Fly c 5 0 -∗ Pk X c 0 (kept 0 0 c) (False ∨ is (wd 0 c) 0#32 = 1#1) -∗ xPts X c
          -∗ ∀ a b, Q ⟨a, b, is (wd 0 c) 1#32⟩)
        -∗ WP c (on (k0_part5 (F := F)) c v2 (wd 0 c) (wd 2 c) v109 c0) Q) := by
  rw [k0_part5_eq_skeleton]; unfold on k0_part5_skel
  iintro #HC HO S4 R4 S5 R5 T0 Hx Hk
  extract_lets
  rename_i j3 j2 j1
  iapply (wp_send0 X K c 4 7 rfl (by revert c; decide) (by revert c; decide) (by exact rfl) (by exact rfl)) $$ HC S4 R4 HO
  iintro F4 HO
  iapply (wp_pack X c 5 (sent 5 0 c) 4 (by revert c; decide) (by decide) (by decide) (by exact packed)) $$ S5 Hx
  iintro S5 Hx
  dsimp only [j1]
  iapply (wp_pack X c 5 (sent 5 0 c) 0 (by revert c; decide) (by decide) (by decide) (by exact packed)) $$ S5 Hx
  iintro S5 Hx
  dsimp only [j2]
  ihave S5 := (Pk_Sl X c 5 (by revert c; decide)) $$ S5
  iapply (wp_send0 X K c 5 8 rfl (by revert c; decide) (by revert c; decide) (by exact rfl) (by exact rfl)) $$ HC S5 R5 HO
  iintro F5 HO
  iapply (wp_pack X c 0 (kept 0 0 c) 0 (by revert c; decide) (by decide) (by decide) (by exact packed)) $$ T0 Hx
  iintro T0 Hx
  dsimp only [j3]
  iapply (wp_pure c _)
  iapply Hk $$ HO F4 F5 T0 Hx

set_option maxHeartbeats 1600000 in
theorem part6 {Q} :
    iprop(Pk X c 0 (kept 0 0 c) (False ∨ is (wd 0 c) 0#32 = 1#1)) ⊢ iprop(Pk X c 1 (kept 1 0 c) False -∗ Pk X c 2 (kept 2 0 c) False
        -∗ Pk X c 3 (kept 3 0 c) False -∗ Pk X c 4 (kept 4 0 c) False -∗ Pk X c 5 (kept 5 0 c) False -∗ xPts X c
        -∗ (Kp X c 0 0 0 -∗ Kp X c 1 0 0 -∗ Kp X c 2 0 0 -∗ Kp X c 3 0 0 -∗ Kp X c 4 0 0
          -∗ Pk X c 5 (kept 5 0 c) (False ∨ is (wd 2 c) 0#32 = 1#1) -∗ xPts X c -∗ Q (is (wd 2 c) 1#32))
        -∗ WP c (on (k0_part6 (F := F)) (wd 0 c) (wd 1 c) (wd 2 c) (is (wd 0 c) 1#32)) Q) := by
  rw [k0_part6_eq_skeleton]; unfold on k0_part6_skel
  iintro T0 T1 T2 T3 T4 T5 Hx Hk
  extract_lets
  rename_i j10 j9 j8 j7 j6 j5 j4 j3 j2 j1
  iapply (wp_pack X c 0 (kept 0 0 c) 4 (by revert c; decide) (by decide) (by decide) (by exact packed)) $$ T0 Hx
  iintro T0 Hx
  dsimp only [j1]
  iapply (wp_pack X c 1 (kept 1 0 c) 0 (by revert c; decide) (by decide) (by decide) (by exact packed)) $$ T1 Hx
  iintro T1 Hx
  dsimp only [j2]
  iapply (wp_pack X c 1 (kept 1 0 c) 4 (by revert c; decide) (by decide) (by decide) (by exact packed)) $$ T1 Hx
  iintro T1 Hx
  dsimp only [j3]
  iapply (wp_pack X c 2 (kept 2 0 c) 0 (by revert c; decide) (by decide) (by decide) (by exact packed)) $$ T2 Hx
  iintro T2 Hx
  dsimp only [j4]
  iapply (wp_pack X c 2 (kept 2 0 c) 4 (by revert c; decide) (by decide) (by decide) (by exact packed)) $$ T2 Hx
  iintro T2 Hx
  dsimp only [j5]
  iapply (wp_pack X c 3 (kept 3 0 c) 0 (by revert c; decide) (by decide) (by decide) (by exact packed)) $$ T3 Hx
  iintro T3 Hx
  dsimp only [j6]
  iapply (wp_pack X c 3 (kept 3 0 c) 4 (by revert c; decide) (by decide) (by decide) (by exact packed)) $$ T3 Hx
  iintro T3 Hx
  dsimp only [j7]
  iapply (wp_pack X c 4 (kept 4 0 c) 0 (by revert c; decide) (by decide) (by decide) (by exact packed)) $$ T4 Hx
  iintro T4 Hx
  dsimp only [j8]
  iapply (wp_pack X c 4 (kept 4 0 c) 4 (by revert c; decide) (by decide) (by decide) (by exact packed)) $$ T4 Hx
  iintro T4 Hx
  dsimp only [j9]
  iapply (wp_pack X c 5 (kept 5 0 c) 0 (by revert c; decide) (by decide) (by decide) (by exact packed)) $$ T5 Hx
  iintro T5 Hx
  dsimp only [j10]
  ihave T0 := (Pk_Kp X c 0 (by revert c; decide)) $$ T0
  ihave T1 := (Pk_Kp X c 1 (by revert c; decide)) $$ T1
  ihave T2 := (Pk_Kp X c 2 (by revert c; decide)) $$ T2
  ihave T3 := (Pk_Kp X c 3 (by revert c; decide)) $$ T3
  ihave T4 := (Pk_Kp X c 4 (by revert c; decide)) $$ T4
  iapply (wp_pure c _)
  iapply Hk $$ T0 T1 T2 T3 T4 T5 Hx

theorem part7 {Q} (v2 v8 v28 v32 : BitVec 32) {P : sProp 𝕄} :
    Ctx X K ⊢ iprop(Pk X c 5 (kept 5 0 c) (False ∨ is (wd 2 c) 0#32 = 1#1) -∗ xPts X c -∗ (Fly c 0 0 ∗ Kp X c 0 0 0 ∗ P) -∗ Owes c 9
        -∗ (Kp X c 5 0 0 -∗ xPts X c -∗ (Sl X c 0 1 1 ∗ Kp X c 0 1 0 ∗ Got X c 0 0 ∗ P) -∗ Owes c 9 -∗ ∀ r, Q r)
        -∗ WP c (on (k0_part7 (F := F)) c v2 v8 v28 v32 (is (wd 2 c) 1#32)) Q) := by
  rw [k0_part7_eq_skeleton]; unfold on k0_part7_skel
  iintro #HC T5 Hx H0 HO Hk
  extract_lets
  rename_i j1
  iapply (wp_pack X c 5 (kept 5 0 c) 4 (by revert c; decide) (by decide) (by decide) (by exact packed)) $$ T5 Hx
  iintro T5 Hx
  dsimp only [j1]
  ihave T5 := (Pk_Kp X c 5 (by revert c; decide)) $$ T5
  iapply (wp_swait X K c 0 0 9 (by decide) (by exact rfl) (by exact rfl)) $$ HC H0 HO
  iintro H0 HO
  iapply (wp_rwait X K c 0 0 9 (by decide) (by exact rfl) (by exact rfl)) $$ HC H0 HO
  iintro H0 HO
  ihave H0 := cut_next c 0 0 1 rfl (Pc X 0 (0 : Fin 3).val c) $$ H0
  iapply (wp_addA X c 0 0 1 rfl (by exact ⟨_, fun _ _ => rfl⟩) (by revert c; decide) (by revert c; decide) (by revert c; decide)) $$ H0
  iintro H0
  iapply (wp_pure c _)
  iapply Hk $$ T5 Hx H0 HO

end Parts

end Cert.Cube

end
-- ==== Proof.Parts2.lean ====
/-
# 01_k — `Parts2`: the parts of the body after the first transfers
-/
module

public import proofs.«01_k».proof.Proof.Parts

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What a load of the live buffer, and of a landing buffer, reads. -/
abbrev ldB (X : Dev nD → S1x512x4096.Idx → Elt F .bf16) (c : Dev nD) (si : Fin 6) (k : Fin 3) (n lo : ℕ) : (S3 n (R si)).Idx → Elt F .bf16 :=
  fun j => Pc X si k.val c (lo + (j 0).val) (j 1).val (j 2).val
abbrev ldR (X : Dev nD → S1x512x4096.Idx → Elt F .bf16) (c : Dev nD) (si : Fin 6) (k : Fin 3) (n o : ℕ) : (S3 n (R si)).Idx → Elt F .bf16 :=
  fun j => Gc X si k c (o + (j 0).val) (j 1).val (j 2).val

/-- Their sum. -/
def Sm (X : Dev nD → S1x512x4096.Idx → Elt F .bf16) (c : Dev nD) (si : Fin 6) (k : Fin 3) (n lo : ℕ) : (S3 n (R si)).Idx → Elt F .bf16 :=
  addf (F := F) (φ := .bf16) (ldB X c si k n lo) (ldR X c si k n (lo - kept si k c))

theorem Sm_val (X : Dev nD → S1x512x4096.Idx → Elt F .bf16) (c : Dev nD) (si : Fin 6) (k j : Fin 3) (hj : j.val = k.val + 1) {n lo : ℕ}
    (h : kept si k c ≤ lo) (hsc : (S3 n (R si)).ShapeCasts (S3 n (R si))) (i : (S3 n (R si)).Idx) :
    shapeCast (S3 n (R si)) (Sm X c si k n lo) hsc i = Pc X si j.val c (lo + (i 0).val) (i 1).val (i 2).val :=
  add_val X c si k j hj (Nat.add_sub_cancel' h).symm hsc i

section Halves
variable (X : Dev nD → S1x512x4096.Idx → Elt F .bf16) (c : Dev nD) (si : Fin 6) (k j : Fin 3) (hj : j.val = k.val + 1)
  {off : Fin 3 → ℕ} {inb : ∀ a, off a + ![nk j, R si, 512] a ≤ (S3 8 (R si)).size a} {w : (S3 (nk j) (R si)).Idx → Elt F .bf16}
include hj

/-- The store half of an addition, the loads done before. -/
theorem wp_stA (ho : off = ![sent si j c, 0, 0]) (he : kept si k c ≤ sent si j c)
    (hw : ∃ hsc, w = shapeCast (S3 (nk j) (R si)) (Sm X c si k (nk j) (sent si j c)) hsc)
    {α : Type} {Q : α → sProp 𝕄} {h₃ h₄ h₅} {kk : PUnit → Prog (TpuEff nD τ sig (Elt F) Λ₀ .tc) α} {P : sProp 𝕄} :
    iprop(Sl X c si j k ∗ P) ⊢ iprop(((Sl X c si j j ∗ P) -∗ WP c (kk ⟨⟩) Q)
        -∗ WP c (Prog.lift (.load (bufM si) (Rect.unit (s := S3 8 (R si)) off ![nk j, R si, 512] inb).toLoadRect h₃) >>= fun _ =>
            Prog.lift (.store (bufM si) (Rect.unit (s := S3 8 (R si)) off ![nk j, R si, 512] inb) w Finset.univ h₄ h₅) >>= kk) Q) := by
  obtain ⟨hsc, rfl⟩ := hw
  iintro H Hk
  iapply (wp_ld1 c (bufM si) ho rfl) $$ H
  iintro H
  iapply (wp_st1 c (bufM si) (Pc X si j.val c) ho rfl (Sm_val X c si k j hj he hsc)) $$ H
  iexact Hk

theorem wp_stB (ho : off = ![kept si j c, 0, 0]) (he : kept si k c ≤ kept si j c)
    (hw : ∃ hsc, w = shapeCast (S3 (nk j) (R si)) (Sm X c si k (nk j) (kept si j c)) hsc)
    {α : Type} {Q : α → sProp 𝕄} {h₃ h₄ h₅} {kk : PUnit → Prog (TpuEff nD τ sig (Elt F) Λ₀ .tc) α} {P₀ P : sProp 𝕄} :
    iprop(P₀ ∗ Kp X c si j k ∗ P) ⊢ iprop(((P₀ ∗ Kp X c si j j ∗ P) -∗ WP c (kk ⟨⟩) Q)
        -∗ WP c (Prog.lift (.load (bufM si) (Rect.unit (s := S3 8 (R si)) off ![nk j, R si, 512] inb).toLoadRect h₃) >>= fun _ =>
            Prog.lift (.store (bufM si) (Rect.unit (s := S3 8 (R si)) off ![nk j, R si, 512] inb) w Finset.univ h₄ h₅) >>= kk) Q) := by
  obtain ⟨hsc, rfl⟩ := hw
  iintro H Hk
  iapply (wp_ld2 c (bufM si) ho rfl) $$ H
  iintro H
  iapply (wp_st2 c (bufM si) (Pc X si j.val c) ho rfl (Sm_val X c si k j hj he hsc)) $$ H
  iexact Hk
end Halves

section Outs
variable (X : Dev nD → S1x512x4096.Idx → Elt F .bf16) (c : Dev nD)

/-- A piece's finished block is stored. -/
theorem wp_fin (si : Fin 6) {n : ℕ} (hn : si.val = n) {off : Fin 2 → ℕ} {inb : ∀ a, off a + ![R si, 512] a ≤ S512x512.size a}
    (ho : off = ![row0 si, 0]) {h₁ h₂}
    {w : (⟨2, ![R si, 512]⟩ : Shape).Idx → Elt F .bf16}
    (hw : w = addf (F := F) (φ := .bf16) (shapeCast ⟨2, ![R si, 512]⟩ (ldB X c si 2 1 (kept si 2 c)) h₁) (shapeCast ⟨2, ![R si, 512]⟩ (ldR X c si 2 1 0) h₂))
    {α : Type} {Q : α → sProp 𝕄} {h₃ h₄ h₅} {kk : PUnit → Prog (TpuEff nD τ sig (Elt F) Λ₀ .tc) α} :
    Out X c n ⊢ iprop((Out X c (n + 1) -∗ WP c (kk ⟨⟩) Q)
        -∗ WP c (Prog.lift (.load oM (Rect.unit (s := S512x512) off ![R si, 512] inb).toLoadRect h₃) >>= fun _ =>
            Prog.lift (.store oM (Rect.unit (s := S512x512) off ![R si, 512] inb) w Finset.univ h₄ h₅) >>= kk) Q) := by
  subst hn; subst hw
  iintro HOut Hk
  iapply (wp_ldo X c si.val) $$ HOut
  iintro %_ HOut
  iapply (wp_sto X c si ho rfl (fun j => out_val X c si h₁ h₂ j)) $$ HOut
  iexact Hk

/-- The last exchange of a piece: the kept run and what came are added into the result. -/
theorem wp_out (si : Fin 6) {n : ℕ} (hn : si.val = n) {off offG : Fin 3 → ℕ} {off₂ : Fin 2 → ℕ}
    {inb : ∀ a, off a + ![1, R si, 512] a ≤ (S3 8 (R si)).size a} {inbG : ∀ a, offG a + ![1, R si, 512] a ≤ (S3 1 (R si)).size a}
    {inb₂ : ∀ a, off₂ a + ![R si, 512] a ≤ S512x512.size a}
    (ho : off = ![kept si 2 c, 0, 0]) (hg : offG = ![0, 0, 0]) (ho₂ : off₂ = ![row0 si, 0])
    {p : ((S3 1 (R si)).Idx → Elt F .bf16) → ((S3 1 (R si)).Idx → Elt F .bf16) → (⟨2, ![R si, 512]⟩ : Shape).Idx → Elt F .bf16}
    (hp : ∃ h₁ h₂, ∀ v w, p v w = addf (F := F) (φ := .bf16) (shapeCast ⟨2, ![R si, 512]⟩ v h₁) (shapeCast ⟨2, ![R si, 512]⟩ w h₂))
    {α : Type} {Q : α → sProp 𝕄} {h₁ h₂ h₃ h₄ h₅} {kk : PUnit → Prog (TpuEff nD τ sig (Elt F) Λ₀ .tc) α} {P : sProp 𝕄} :
    iprop(Got X c si 2 ∗ Kp X c si 2 2 ∗ P) ⊢ iprop(Out X c n -∗ ((Got X c si 2 ∗ Kp X c si 2 2 ∗ P) -∗ Out X c (n + 1) -∗ WP c (kk ⟨⟩) Q)
        -∗ WP c (Prog.lift (.load (bufM si) (Rect.unit (s := S3 8 (R si)) off ![1, R si, 512] inb).toLoadRect h₁) >>= fun v =>
            Prog.lift (.load (recvM si 2) (Rect.unit (s := S3 1 (R si)) offG ![1, R si, 512] inbG).toLoadRect h₂) >>= fun w =>
            Prog.lift (.load oM (Rect.unit (s := S512x512) off₂ ![R si, 512] inb₂).toLoadRect h₃) >>= fun _ =>
            Prog.lift (.store oM (Rect.unit (s := S512x512) off₂ ![R si, 512] inb₂) (p v w) Finset.univ h₄ h₅) >>= kk) Q) := by
  obtain ⟨h₆, h₇, hp⟩ := hp
  iintro H HOut Hk
  iapply (wp_ld2 c (bufM si) ho rfl) $$ H
  iintro H
  iapply (wp_ldG1 X c si 2 0 1 hg rfl (by decide)) $$ H
  iintro H
  iapply (wp_fin X c si hn ho₂ (hp _ _)) $$ HOut
  iintro HOut
  iapply Hk $$ H HOut
end Outs

section Parts
variable (X : Dev nD → S1x512x4096.Idx → Elt F .bf16) (K : Dev nD × Option (Fin 36) → ℕ) (c : Dev nD)

theorem part8 {Q} (v8 v28 v51 v197 : BitVec 32) {P P' : sProp 𝕄} :
    Ctx X K ⊢ iprop(Owes c 9 -∗ (Sl X c 0 1 1 ∗ Kp X c 0 1 0 ∗ Got X c 0 0 ∗ P) -∗ Rdy c 0 1 -∗ (Fly c 1 0 ∗ Kp X c 1 0 0 ∗ P')
        -∗ (Owes c 10 -∗ (Fly c 0 1 ∗ Kp X c 0 1 1 ∗ Got X c 0 0 ∗ P) -∗ (Got X c 1 0 ∗ Kp X c 1 0 0 ∗ P') -∗ ∀ r, Q r)
        -∗ WP c (on (k0_part8 (F := F)) c v8 v28 v51 v197) Q) := by
  rw [k0_part8_eq_skeleton]; unfold on k0_part8_skel
  iintro #HC HO H0 R0 H1 Hk
  extract_lets
  iapply (wp_send X K c 0 1 9 rfl (by revert c; decide) (by revert c; decide) (by exact rfl) (by exact rfl)) $$ HC H0 R0 HO
  iintro H0 HO
  iapply (wp_addB X c 0 0 1 rfl (by exact ⟨_, fun _ _ => rfl⟩) (by revert c; decide) (by revert c; decide) (by revert c; decide)) $$ H0
  iintro H0
  iapply (wp_swait X K c 1 0 10 (by decide) (by exact rfl) (by exact rfl)) $$ HC H1 HO
  iintro H1 HO
  iapply (wp_rwait X K c 1 0 10 (by decide) (by exact rfl) (by exact rfl)) $$ HC H1 HO
  iintro H1 HO
  iapply (wp_pure c _)
  iapply Hk $$ HO H0 H1

theorem part9 {Q} (v2 v10 v47 c1 : BitVec 32) {P : sProp 𝕄} :
    Ctx X K ⊢ iprop(Owes c 10 -∗ (Got X c 1 0 ∗ Kp X c 1 0 0 ∗ P) -∗ Rdy c 1 1
        -∗ (Owes c 11 -∗ (Fly c 1 1 ∗ Kp X c 1 1 0 ∗ Got X c 1 0 ∗ P)
          -∗ ∀ a b w d, ⌜w = Sm X c 1 0 2 (kept 1 1 c)⌝ -∗ Q ⟨a, b, w, d⟩)
        -∗ WP c (on (k0_part9 (F := F)) c v2 v10 v47 c1) Q) := by
  rw [k0_part9_eq_skeleton]; unfold on k0_part9_skel
  iintro #HC HO H1 R1 Hk
  extract_lets
  ihave H1 := cut_next c 1 0 1 rfl (Pc X 1 (0 : Fin 3).val c) $$ H1
  iapply (wp_addA X c 1 0 1 rfl (by exact ⟨_, fun _ _ => rfl⟩) (by revert c; decide) (by revert c; decide) (by revert c; decide)) $$ H1
  iintro H1
  iapply (wp_send X K c 1 1 10 rfl (by revert c; decide) (by revert c; decide) (by exact rfl) (by exact rfl)) $$ HC H1 R1 HO
  iintro H1 HO
  iapply (wp_ld2 c (bufM 1) (by revert c; decide) rfl) $$ H1
  iintro H1
  iapply (wp_ldG3 X c 1 0 (kept 1 1 c - kept 1 0 c) 2 (by revert c; decide) rfl (by revert c; decide)) $$ H1
  iintro H1
  iapply (wp_pure c _)
  iapply Hk $$ HO H1
  ipureintro; rfl

theorem part10 {Q} (v6 v66 v70 v258 : BitVec 32) {w} (hw : w = Sm X c 1 0 2 (kept 1 1 c)) {P P' : sProp 𝕄} :
    Ctx X K ⊢ iprop(Owes c 11 -∗ (Fly c 1 1 ∗ Kp X c 1 1 0 ∗ Got X c 1 0 ∗ P) -∗ (Fly c 2 0 ∗ Kp X c 2 0 0 ∗ P')
        -∗ (Owes c 11 -∗ (Fly c 1 1 ∗ Kp X c 1 1 1 ∗ Got X c 1 0 ∗ P) -∗ (Sl X c 2 1 1 ∗ Kp X c 2 1 0 ∗ Got X c 2 0 ∗ P') -∗ ∀ r, Q r)
        -∗ WP c (on (k0_part10 (F := F)) c v6 v66 v70 w v258) Q) := by
  rw [k0_part10_eq_skeleton]; unfold on k0_part10_skel
  subst hw
  iintro #HC HO H1 H2 Hk
  extract_lets
  iapply (wp_stB X c 1 0 1 rfl (by revert c; decide) (by revert c; decide) (by exact ⟨_, rfl⟩)) $$ H1
  iintro H1
  iapply (wp_swait X K c 2 0 11 (by decide) (by exact rfl) (by exact rfl)) $$ HC H2 HO
  iintro H2 HO
  iapply (wp_rwait X K c 2 0 11 (by decide) (by exact rfl) (by exact rfl)) $$ HC H2 HO
  iintro H2 HO
  ihave H2 := cut_next c 2 0 1 rfl (Pc X 2 (0 : Fin 3).val c) $$ H2
  iapply (wp_addA X c 2 0 1 rfl (by exact ⟨_, fun _ _ => rfl⟩) (by revert c; decide) (by revert c; decide) (by revert c; decide)) $$ H2
  iintro H2
  iapply (wp_pure c _)
  iapply Hk $$ HO H1 H2

theorem part11 {Q} (v2 v6 v66 v89 v286 c2 : BitVec 32) {P2 P3 : sProp 𝕄} :
    Ctx X K ⊢ iprop(Owes c 11 -∗ (Sl X c 2 1 1 ∗ Kp X c 2 1 0 ∗ Got X c 2 0 ∗ P2) -∗ Rdy c 2 1 -∗ (Fly c 3 0 ∗ Kp X c 3 0 0 ∗ P3)
        -∗ (Owes c 12 -∗ (Fly c 2 1 ∗ Kp X c 2 1 1 ∗ Got X c 2 0 ∗ P2) -∗ (Half c 3 0 ∗ Kp X c 3 0 0 ∗ P3) -∗ ∀ r, Q r)
        -∗ WP c (on (k0_part11 (F := F)) c v2 v6 v66 v89 v286 c2) Q) := by
  rw [k0_part11_eq_skeleton]; unfold on k0_part11_skel
  iintro #HC HO H2 R2 H3 Hk
  extract_lets
  iapply (wp_send X K c 2 1 11 rfl (by revert c; decide) (by revert c; decide) (by exact rfl) (by exact rfl)) $$ HC H2 R2 HO
  iintro H2 HO
  iapply (wp_addB X c 2 0 1 rfl (by exact ⟨_, fun _ _ => rfl⟩) (by revert c; decide) (by revert c; decide) (by revert c; decide)) $$ H2
  iintro H2
  iapply (wp_swait X K c 3 0 12 (by decide) (by exact rfl) (by exact rfl)) $$ HC H3 HO
  iintro H3 HO
  iapply (wp_pure c _)
  iapply Hk $$ HO H2 H3

theorem part12 {Q} (v2 v8 v85 : BitVec 32) {P3 : sProp 𝕄} :
    Ctx X K ⊢ iprop(Owes c 12 -∗ (Half c 3 0 ∗ Kp X c 3 0 0 ∗ P3) -∗ Rdy c 3 1
        -∗ (Owes c 13 -∗ (Fly c 3 1 ∗ Kp X c 3 1 0 ∗ Got X c 3 0 ∗ P3) -∗ ∀ a b d w, ⌜w = ldB X c 3 0 2 (kept 3 1 c)⌝ -∗ Q ⟨a, b, d, w⟩)
        -∗ WP c (on (k0_part12 (F := F)) c v2 v8 v85) Q) := by
  rw [k0_part12_eq_skeleton]; unfold on k0_part12_skel
  iintro #HC HO H3 R3 Hk
  extract_lets
  iapply (wp_rwait X K c 3 0 12 (by decide) (by exact rfl) (by exact rfl)) $$ HC H3 HO
  iintro H3 HO
  ihave H3 := cut_next c 3 0 1 rfl (Pc X 3 (0 : Fin 3).val c) $$ H3
  iapply (wp_addA X c 3 0 1 rfl (by exact ⟨_, fun _ _ => rfl⟩) (by revert c; decide) (by revert c; decide) (by revert c; decide)) $$ H3
  iintro H3
  iapply (wp_send X K c 3 1 12 rfl (by revert c; decide) (by revert c; decide) (by exact rfl) (by exact rfl)) $$ HC H3 R3 HO
  iintro H3 HO
  iapply (wp_ld2 c (bufM 3) (by revert c; decide) rfl) $$ H3
  iintro H3
  iapply (wp_pure c _)
  iapply Hk $$ HO H3
  ipureintro; rfl

theorem part13 {Q} (v10 v85 v104 v108 v343 : BitVec 32) {w} (hw : w = ldB X c 3 0 2 (kept 3 1 c)) {P3 P4 : sProp 𝕄} :
    Ctx X K ⊢ iprop(Owes c 13 -∗ (Fly c 3 1 ∗ Kp X c 3 1 0 ∗ Got X c 3 0 ∗ P3) -∗ (Fly c 4 0 ∗ Kp X c 4 0 0 ∗ P4)
        -∗ (Owes c 13 -∗ (Fly c 3 1 ∗ Kp X c 3 1 1 ∗ Got X c 3 0 ∗ P3) -∗ (Sl X c 4 1 1 ∗ Kp X c 4 1 0 ∗ Got X c 4 0 ∗ P4) -∗ ∀ r, Q r)
        -∗ WP c (on (k0_part13 (F := F)) c v10 v85 v104 v108 v343 w) Q) := by
  rw [k0_part13_eq_skeleton]; unfold on k0_part13_skel
  subst hw
  iintro #HC HO H3 H4 Hk
  extract_lets
  iapply (wp_ldG3 X c 3 0 (kept 3 1 c - kept 3 0 c) 2 (by revert c; decide) rfl (by revert c; decide)) $$ H3
  iintro H3
  iapply (wp_stB X c 3 0 1 rfl (by revert c; decide) (by revert c; decide) (by exact ⟨_, rfl⟩)) $$ H3
  iintro H3
  iapply (wp_swait X K c 4 0 13 (by decide) (by exact rfl) (by exact rfl)) $$ HC H4 HO
  iintro H4 HO
  iapply (wp_rwait X K c 4 0 13 (by decide) (by exact rfl) (by exact rfl)) $$ HC H4 HO
  iintro H4 HO
  ihave H4 := cut_next c 4 0 1 rfl (Pc X 4 (0 : Fin 3).val c) $$ H4
  iapply (wp_addA X c 4 0 1 rfl (by exact ⟨_, fun _ _ => rfl⟩) (by revert c; decide) (by revert c; decide) (by revert c; decide)) $$ H4
  iintro H4
  iapply (wp_pure c _)
  iapply Hk $$ HO H3 H4

theorem part14 {Q} (v2 v10 v104 : BitVec 32) {P4 P5 : sProp 𝕄} :
    Ctx X K ⊢ iprop(Owes c 13 -∗ (Sl X c 4 1 1 ∗ Kp X c 4 1 0 ∗ Got X c 4 0 ∗ P4) -∗ Rdy c 4 1 -∗ (Fly c 5 0 ∗ Kp X c 5 0 0 ∗ P5)
        -∗ (Owes c 14 -∗ (Fly c 4 1 ∗ Kp X c 4 1 1 ∗ Got X c 4 0 ∗ P4) -∗ (Half c 5 0 ∗ Kp X c 5 0 0 ∗ P5) -∗ ∀ r, Q r)
        -∗ WP c (on (k0_part14 (F := F)) c v2 v10 v104) Q) := by
  rw [k0_part14_eq_skeleton]; unfold on k0_part14_skel
  iintro #HC HO H4 R4 H5 Hk
  extract_lets
  iapply (wp_send X K c 4 1 13 rfl (by revert c; decide) (by revert c; decide) (by exact rfl) (by exact rfl)) $$ HC H4 R4 HO
  iintro H4 HO
  iapply (wp_addB X c 4 0 1 rfl (by exact ⟨_, fun _ _ => rfl⟩) (by revert c; decide) (by revert c; decide) (by revert c; decide)) $$ H4
  iintro H4
  iapply (wp_swait X K c 5 0 14 (by decide) (by exact rfl) (by exact rfl)) $$ HC H5 HO
  iintro H5 HO
  iapply (wp_pure c _)
  iapply Hk $$ HO H4 H5

theorem part15 {Q} (v2 v6 v123 v127 : BitVec 32) {P5 : sProp 𝕄} :
    Ctx X K ⊢ iprop(Owes c 14 -∗ (Half c 5 0 ∗ Kp X c 5 0 0 ∗ P5) -∗ Rdy c 5 1
        -∗ (Owes c 15 -∗ (Fly c 5 1 ∗ Kp X c 5 1 0 ∗ Got X c 5 0 ∗ P5) -∗ ∀ r, Q r)
        -∗ WP c (on (k0_part15 (F := F)) c v2 v6 v123 v127) Q) := by
  rw [k0_part15_eq_skeleton]; unfold on k0_part15_skel
  iintro #HC HO H5 R5 Hk
  extract_lets
  iapply (wp_rwait X K c 5 0 14 (by decide) (by exact rfl) (by exact rfl)) $$ HC H5 HO
  iintro H5 HO
  ihave H5 := cut_next c 5 0 1 rfl (Pc X 5 (0 : Fin 3).val c) $$ H5
  iapply (wp_addA X c 5 0 1 rfl (by exact ⟨_, fun _ _ => rfl⟩) (by revert c; decide) (by revert c; decide) (by revert c; decide)) $$ H5
  iintro H5
  iapply (wp_send X K c 5 1 14 rfl (by revert c; decide) (by revert c; decide) (by exact rfl) (by exact rfl)) $$ HC H5 R5 HO
  iintro H5 HO
  iapply (wp_pure c _)
  iapply Hk $$ HO H5

theorem part16 {Q} (v6 v10 v123 v193 v197 c2 : BitVec 32) {P0 P5 : sProp 𝕄} :
    Ctx X K ⊢ iprop(Owes c 15 -∗ (Fly c 5 1 ∗ Kp X c 5 1 0 ∗ Got X c 5 0 ∗ P5) -∗ (Fly c 0 1 ∗ Kp X c 0 1 1 ∗ P0)
        -∗ (Owes c 15 -∗ (Fly c 5 1 ∗ Kp X c 5 1 1 ∗ Got X c 5 0 ∗ P5) -∗ (Sl X c 0 2 1 ∗ Kp X c 0 2 1 ∗ Got X c 0 1 ∗ P0) -∗ ∀ w, ⌜w = Sm X c 0 1 1 (sent 0 2 c)⌝ -∗ Q w)
        -∗ WP c (on (k0_part16 (F := F)) c v6 v10 v123 v193 v197 c2) Q) := by
  rw [k0_part16_eq_skeleton]; unfold on k0_part16_skel
  iintro #HC HO H5 H0 Hk
  extract_lets
  iapply (wp_addB X c 5 0 1 rfl (by exact ⟨_, fun _ _ => rfl⟩) (by revert c; decide) (by revert c; decide) (by revert c; decide)) $$ H5
  iintro H5
  iapply (wp_swait X K c 0 1 15 (by decide) (by exact rfl) (by exact rfl)) $$ HC H0 HO
  iintro H0 HO
  iapply (wp_rwait X K c 0 1 15 (by decide) (by exact rfl) (by exact rfl)) $$ HC H0 HO
  iintro H0 HO
  ihave H0 := cut_next c 0 1 2 rfl (Pc X 0 (1 : Fin 3).val c) $$ H0
  iapply (wp_ld1 c (bufM 0) (by revert c; decide) rfl) $$ H0
  iintro H0
  iapply (wp_ldG3 X c 0 1 (sent 0 2 c - kept 0 1 c) 1 (by revert c; decide) rfl (by revert c; decide)) $$ H0
  iintro H0
  iapply (wp_pure c _)
  iapply Hk $$ HO H5 H0
  ipureintro; rfl

theorem part17 {Q} (v2 v10 v193 : BitVec 32) {w} (hw : w = Sm X c 0 1 1 (sent 0 2 c)) {P0 : sProp 𝕄} :
    Ctx X K ⊢ iprop(Owes c 15 -∗ (Sl X c 0 2 1 ∗ Kp X c 0 2 1 ∗ Got X c 0 1 ∗ P0) -∗ Rdy c 0 2
        -∗ (Owes c 16 -∗ (Fly c 0 2 ∗ Kp X c 0 2 2 ∗ Got X c 0 1 ∗ P0) -∗ ∀ r, Q r)
        -∗ WP c (on (k0_part17 (F := F)) c v2 v10 v193 w) Q) := by
  rw [k0_part17_eq_skeleton]; unfold on k0_part17_skel
  subst hw
  iintro #HC HO H0 R0 Hk
  extract_lets
  iapply (wp_stA X c 0 1 2 rfl (by revert c; decide) (by revert c; decide) (by exact ⟨_, rfl⟩)) $$ H0
  iintro H0
  iapply (wp_send X K c 0 2 15 rfl (by revert c; decide) (by revert c; decide) (by exact rfl) (by exact rfl)) $$ HC H0 R0 HO
  iintro H0 HO
  iapply (wp_addB X c 0 1 2 rfl (by exact ⟨_, fun _ _ => rfl⟩) (by revert c; decide) (by revert c; decide) (by revert c; decide)) $$ H0
  iintro H0
  iapply (wp_pure c _)
  iapply Hk $$ HO H0

theorem part18 {Q} (v2 v6 v239 v243 : BitVec 32) {P1 : sProp 𝕄} :
    Ctx X K ⊢ iprop(Owes c 16 -∗ (Fly c 1 1 ∗ Kp X c 1 1 1 ∗ P1)
        -∗ (Owes c 16 -∗ (Sl X c 1 2 2 ∗ Kp X c 1 2 1 ∗ Got X c 1 1 ∗ P1) -∗ ∀ r, Q r)
        -∗ WP c (on (k0_part18 (F := F)) c v2 v6 v239 v243) Q) := by
  rw [k0_part18_eq_skeleton]; unfold on k0_part18_skel
  iintro #HC HO H1 Hk
  extract_lets
  iapply (wp_swait X K c 1 1 16 (by decide) (by exact rfl) (by exact rfl)) $$ HC H1 HO
  iintro H1 HO
  iapply (wp_rwait X K c 1 1 16 (by decide) (by exact rfl) (by exact rfl)) $$ HC H1 HO
  iintro H1 HO
  ihave H1 := cut_next c 1 1 2 rfl (Pc X 1 (1 : Fin 3).val c) $$ H1
  iapply (wp_addA X c 1 1 2 rfl (by exact ⟨_, fun _ _ => rfl⟩) (by revert c; decide) (by revert c; decide) (by revert c; decide)) $$ H1
  iintro H1
  iapply (wp_pure c _)
  iapply Hk $$ HO H1

theorem part19 {Q} (v6 v8 v239 v285 v289 : BitVec 32) {P1 P2 : sProp 𝕄} :
    Ctx X K ⊢ iprop(Owes c 16 -∗ (Sl X c 1 2 2 ∗ Kp X c 1 2 1 ∗ Got X c 1 1 ∗ P1) -∗ Rdy c 1 2 -∗ (Fly c 2 1 ∗ Kp X c 2 1 1 ∗ P2)
        -∗ (Owes c 17 -∗ (Fly c 1 2 ∗ Kp X c 1 2 2 ∗ Got X c 1 1 ∗ P1) -∗ (Sl X c 2 2 1 ∗ Kp X c 2 2 1 ∗ Got X c 2 1 ∗ P2) -∗ ∀ a w, ⌜w = ldB X c 2 1 1 (sent 2 2 c)⌝ -∗ Q ⟨a, w⟩)
        -∗ WP c (on (k0_part19 (F := F)) c v6 v8 v239 v285 v289) Q) := by
  rw [k0_part19_eq_skeleton]; unfold on k0_part19_skel
  iintro #HC HO H1 R1 H2 Hk
  extract_lets
  iapply (wp_send X K c 1 2 16 rfl (by revert c; decide) (by revert c; decide) (by exact rfl) (by exact rfl)) $$ HC H1 R1 HO
  iintro H1 HO
  iapply (wp_addB X c 1 1 2 rfl (by exact ⟨_, fun _ _ => rfl⟩) (by revert c; decide) (by revert c; decide) (by revert c; decide)) $$ H1
  iintro H1
  iapply (wp_swait X K c 2 1 17 (by decide) (by exact rfl) (by exact rfl)) $$ HC H2 HO
  iintro H2 HO
  iapply (wp_rwait X K c 2 1 17 (by decide) (by exact rfl) (by exact rfl)) $$ HC H2 HO
  iintro H2 HO
  ihave H2 := cut_next c 2 1 2 rfl (Pc X 2 (1 : Fin 3).val c) $$ H2
  iapply (wp_ld1 c (bufM 2) (by revert c; decide) rfl) $$ H2
  iintro H2
  iapply (wp_pure c _)
  iapply Hk $$ HO H1 H2
  ipureintro; rfl

theorem part20 {Q} (v2 v8 v285 v548 : BitVec 32) {w} (hw : w = ldB X c 2 1 1 (sent 2 2 c)) {P2 : sProp 𝕄} :
    Ctx X K ⊢ iprop(Owes c 17 -∗ (Sl X c 2 2 1 ∗ Kp X c 2 2 1 ∗ Got X c 2 1 ∗ P2) -∗ Rdy c 2 2
        -∗ (Owes c 18 -∗ (Fly c 2 2 ∗ Kp X c 2 2 2 ∗ Got X c 2 1 ∗ P2) -∗ ∀ r, Q r)
        -∗ WP c (on (k0_part20 (F := F)) c v2 v8 v285 v548 w) Q) := by
  rw [k0_part20_eq_skeleton]; unfold on k0_part20_skel
  subst hw
  iintro #HC HO H2 R2 Hk
  extract_lets
  iapply (wp_ldG3 X c 2 1 (sent 2 2 c - kept 2 1 c) 1 (by revert c; decide) rfl (by revert c; decide)) $$ H2
  iintro H2
  iapply (wp_stA X c 2 1 2 rfl (by revert c; decide) (by revert c; decide) (by exact ⟨_, rfl⟩)) $$ H2
  iintro H2
  iapply (wp_send X K c 2 2 17 rfl (by revert c; decide) (by revert c; decide) (by exact rfl) (by exact rfl)) $$ HC H2 R2 HO
  iintro H2 HO
  iapply (wp_addB X c 2 1 2 rfl (by exact ⟨_, fun _ _ => rfl⟩) (by revert c; decide) (by revert c; decide) (by revert c; decide)) $$ H2
  iintro H2
  iapply (wp_pure c _)
  iapply Hk $$ HO H2

theorem part21 {Q} (v2 v10 v331 v335 : BitVec 32) {P3 : sProp 𝕄} :
    Ctx X K ⊢ iprop(Owes c 18 -∗ (Fly c 3 1 ∗ Kp X c 3 1 1 ∗ P3)
        -∗ (Owes c 18 -∗ (Sl X c 3 2 2 ∗ Kp X c 3 2 1 ∗ Got X c 3 1 ∗ P3) -∗ ∀ r, Q r)
        -∗ WP c (on (k0_part21 (F := F)) c v2 v10 v331 v335) Q) := by
  rw [k0_part21_eq_skeleton]; unfold on k0_part21_skel
  iintro #HC HO H3 Hk
  extract_lets
  iapply (wp_swait X K c 3 1 18 (by decide) (by exact rfl) (by exact rfl)) $$ HC H3 HO
  iintro H3 HO
  iapply (wp_rwait X K c 3 1 18 (by decide) (by exact rfl) (by exact rfl)) $$ HC H3 HO
  iintro H3 HO
  ihave H3 := cut_next c 3 1 2 rfl (Pc X 3 (1 : Fin 3).val c) $$ H3
  iapply (wp_addA X c 3 1 2 rfl (by exact ⟨_, fun _ _ => rfl⟩) (by revert c; decide) (by revert c; decide) (by revert c; decide)) $$ H3
  iintro H3
  iapply (wp_pure c _)
  iapply Hk $$ HO H3

theorem part22 {Q} (v6 v10 v331 v381 v611 c1 : BitVec 32) {P3 P4 : sProp 𝕄} :
    Ctx X K ⊢ iprop(Owes c 18 -∗ (Sl X c 3 2 2 ∗ Kp X c 3 2 1 ∗ Got X c 3 1 ∗ P3) -∗ Rdy c 3 2 -∗ (Fly c 4 1 ∗ Kp X c 4 1 1 ∗ P4)
        -∗ (Owes c 19 -∗ (Fly c 3 2 ∗ Kp X c 3 2 2 ∗ Got X c 3 1 ∗ P3) -∗ (Got X c 4 1 ∗ Kp X c 4 1 1 ∗ P4) -∗ ∀ r, Q r)
        -∗ WP c (on (k0_part22 (F := F)) c v6 v10 v331 v381 v611 c1) Q) := by
  rw [k0_part22_eq_skeleton]; unfold on k0_part22_skel
  iintro #HC HO H3 R3 H4 Hk
  extract_lets
  iapply (wp_send X K c 3 2 18 rfl (by revert c; decide) (by revert c; decide) (by exact rfl) (by exact rfl)) $$ HC H3 R3 HO
  iintro H3 HO
  iapply (wp_addB X c 3 1 2 rfl (by exact ⟨_, fun _ _ => rfl⟩) (by revert c; decide) (by revert c; decide) (by revert c; decide)) $$ H3
  iintro H3
  iapply (wp_swait X K c 4 1 19 (by decide) (by exact rfl) (by exact rfl)) $$ HC H4 HO
  iintro H4 HO
  iapply (wp_rwait X K c 4 1 19 (by decide) (by exact rfl) (by exact rfl)) $$ HC H4 HO
  iintro H4 HO
  iapply (wp_pure c _)
  iapply Hk $$ HO H3 H4

theorem part23 {Q} (v2 v6 v377 v640 : BitVec 32) {P4 : sProp 𝕄} :
    Ctx X K ⊢ iprop(Owes c 19 -∗ (Got X c 4 1 ∗ Kp X c 4 1 1 ∗ P4) -∗ Rdy c 4 2
        -∗ (Owes c 20 -∗ (Fly c 4 2 ∗ Kp X c 4 2 1 ∗ Got X c 4 1 ∗ P4) -∗ ∀ a b w, ⌜w = Sm X c 4 1 1 (kept 4 2 c)⌝ -∗ Q ⟨a, b, w⟩)
        -∗ WP c (on (k0_part23 (F := F)) c v2 v6 v377 v640) Q) := by
  rw [k0_part23_eq_skeleton]; unfold on k0_part23_skel
  iintro #HC HO H4 R4 Hk
  extract_lets
  ihave H4 := cut_next c 4 1 2 rfl (Pc X 4 (1 : Fin 3).val c) $$ H4
  iapply (wp_addA X c 4 1 2 rfl (by exact ⟨_, fun _ _ => rfl⟩) (by revert c; decide) (by revert c; decide) (by revert c; decide)) $$ H4
  iintro H4
  iapply (wp_send X K c 4 2 19 rfl (by revert c; decide) (by revert c; decide) (by exact rfl) (by exact rfl)) $$ HC H4 R4 HO
  iintro H4 HO
  iapply (wp_ld2 c (bufM 4) (by revert c; decide) rfl) $$ H4
  iintro H4
  iapply (wp_ldG3 X c 4 1 (kept 4 2 c - kept 4 1 c) 1 (by revert c; decide) rfl (by revert c; decide)) $$ H4
  iintro H4
  iapply (wp_pure c _)
  iapply Hk $$ HO H4
  ipureintro; rfl

theorem part24 {Q} (v8 v423 v427 : BitVec 32) {w} (hw : w = Sm X c 4 1 1 (kept 4 2 c)) {P4 P5 : sProp 𝕄} :
    Ctx X K ⊢ iprop(Owes c 20 -∗ (Fly c 4 2 ∗ Kp X c 4 2 1 ∗ Got X c 4 1 ∗ P4) -∗ (Fly c 5 1 ∗ Kp X c 5 1 1 ∗ P5)
        -∗ (Owes c 20 -∗ (Fly c 4 2 ∗ Kp X c 4 2 2 ∗ Got X c 4 1 ∗ P4) -∗ (Sl X c 5 2 2 ∗ Kp X c 5 2 1 ∗ Got X c 5 1 ∗ P5) -∗ ∀ r, Q r)
        -∗ WP c (on (k0_part24 (F := F)) c v8 v423 v427 w) Q) := by
  rw [k0_part24_eq_skeleton]; unfold on k0_part24_skel
  subst hw
  iintro #HC HO H4 H5 Hk
  extract_lets
  iapply (wp_stB X c 4 1 2 rfl (by revert c; decide) (by revert c; decide) (by exact ⟨_, rfl⟩)) $$ H4
  iintro H4
  iapply (wp_swait X K c 5 1 20 (by decide) (by exact rfl) (by exact rfl)) $$ HC H5 HO
  iintro H5 HO
  iapply (wp_rwait X K c 5 1 20 (by decide) (by exact rfl) (by exact rfl)) $$ HC H5 HO
  iintro H5 HO
  ihave H5 := cut_next c 5 1 2 rfl (Pc X 5 (1 : Fin 3).val c) $$ H5
  iapply (wp_addA X c 5 1 2 rfl (by exact ⟨_, fun _ _ => rfl⟩) (by revert c; decide) (by revert c; decide) (by revert c; decide)) $$ H5
  iintro H5
  iapply (wp_pure c _)
  iapply Hk $$ HO H4 H5

theorem part25 {Q} (v2 v8 v423 v473 c3 : BitVec 32) {P0 P5 : sProp 𝕄} :
    Ctx X K ⊢ iprop(Owes c 20 -∗ (Sl X c 5 2 2 ∗ Kp X c 5 2 1 ∗ Got X c 5 1 ∗ P5) -∗ Rdy c 5 2 -∗ (Fly c 0 2 ∗ Kp X c 0 2 2 ∗ P0)
        -∗ (Owes c 21 -∗ (Fly c 5 2 ∗ Kp X c 5 2 2 ∗ Got X c 5 1 ∗ P5) -∗ (Half c 0 2 ∗ Kp X c 0 2 2 ∗ P0) -∗ ∀ r, Q r)
        -∗ WP c (on (k0_part25 (F := F)) c v2 v8 v423 v473 c3) Q) := by
  rw [k0_part25_eq_skeleton]; unfold on k0_part25_skel
  iintro #HC HO H5 R5 H0 Hk
  extract_lets
  iapply (wp_send X K c 5 2 20 rfl (by revert c; decide) (by revert c; decide) (by exact rfl) (by exact rfl)) $$ HC H5 R5 HO
  iintro H5 HO
  iapply (wp_addB X c 5 1 2 rfl (by exact ⟨_, fun _ _ => rfl⟩) (by revert c; decide) (by revert c; decide) (by revert c; decide)) $$ H5
  iintro H5
  iapply (wp_swait X K c 0 2 21 (by decide) (by exact rfl) (by exact rfl)) $$ HC H0 HO
  iintro H0 HO
  iapply (wp_pure c _)
  iapply Hk $$ HO H5 H0

theorem part26 {Q} (v469 v515 v519 : BitVec 32) {P0 P1 : sProp 𝕄} :
    Ctx X K ⊢ iprop(Owes c 21 -∗ Out X c 0 -∗ (Half c 0 2 ∗ Kp X c 0 2 2 ∗ P0) -∗ (Fly c 1 2 ∗ Kp X c 1 2 2 ∗ P1)
        -∗ (Owes c 21 -∗ Out X c 2 -∗ (Got X c 0 2 ∗ Kp X c 0 2 2 ∗ P0) -∗ (Got X c 1 2 ∗ Kp X c 1 2 2 ∗ P1) -∗ ∀ r, Q r)
        -∗ WP c (on (k0_part26 (F := F)) c v469 v515 v519) Q) := by
  rw [k0_part26_eq_skeleton]; unfold on k0_part26_skel
  iintro #HC HO HOut H0 H1 Hk
  extract_lets
  iapply (wp_rwait X K c 0 2 21 (by decide) (by exact rfl) (by exact rfl)) $$ HC H0 HO
  iintro H0 HO
  iapply (wp_out X c 0 (by exact rfl) (by revert c; decide) rfl rfl (by exact ⟨_, _, fun _ _ => rfl⟩)) $$ H0 HOut
  iintro H0 HOut
  iapply (wp_swait X K c 1 2 21 (by decide) (by exact rfl) (by exact rfl)) $$ HC H1 HO
  iintro H1 HO
  iapply (wp_rwait X K c 1 2 21 (by decide) (by exact rfl) (by exact rfl)) $$ HC H1 HO
  iintro H1 HO
  iapply (wp_out X c 1 (by exact rfl) (by revert c; decide) rfl rfl (by exact ⟨_, _, fun _ _ => rfl⟩)) $$ H1 HOut
  iintro H1 HOut
  iapply (wp_pure c _)
  iapply Hk $$ HO HOut H0 H1

theorem part27 {Q} (v561 v565 v611 : BitVec 32) {P2 P3 : sProp 𝕄} :
    Ctx X K ⊢ iprop(Owes c 21 -∗ Out X c 2 -∗ (Fly c 2 2 ∗ Kp X c 2 2 2 ∗ P2) -∗ (Fly c 3 2 ∗ Kp X c 3 2 2 ∗ P3)
        -∗ (Owes c 21 -∗ Out X c 3 -∗ (Got X c 2 2 ∗ Kp X c 2 2 2 ∗ P2) -∗ (Half c 3 2 ∗ Kp X c 3 2 2 ∗ P3) -∗ ∀ r, Q r)
        -∗ WP c (on (k0_part27 (F := F)) c v561 v565 v611) Q) := by
  rw [k0_part27_eq_skeleton]; unfold on k0_part27_skel
  iintro #HC HO HOut H2 H3 Hk
  extract_lets
  iapply (wp_swait X K c 2 2 21 (by decide) (by exact rfl) (by exact rfl)) $$ HC H2 HO
  iintro H2 HO
  iapply (wp_rwait X K c 2 2 21 (by decide) (by exact rfl) (by exact rfl)) $$ HC H2 HO
  iintro H2 HO
  iapply (wp_out X c 2 (by exact rfl) (by revert c; decide) rfl rfl (by exact ⟨_, _, fun _ _ => rfl⟩)) $$ H2 HOut
  iintro H2 HOut
  iapply (wp_swait X K c 3 2 21 (by decide) (by exact rfl) (by exact rfl)) $$ HC H3 HO
  iintro H3 HO
  iapply (wp_pure c _)
  iapply Hk $$ HO HOut H2 H3

theorem part28 {Q} (v607 v653 v657 : BitVec 32) {P3 P4 : sProp 𝕄} :
    Ctx X K ⊢ iprop(Owes c 21 -∗ Out X c 3 -∗ (Half c 3 2 ∗ Kp X c 3 2 2 ∗ P3) -∗ (Fly c 4 2 ∗ Kp X c 4 2 2 ∗ P4)
        -∗ (Owes c 21 -∗ Out X c 5 -∗ (Got X c 3 2 ∗ Kp X c 3 2 2 ∗ P3) -∗ (Got X c 4 2 ∗ Kp X c 4 2 2 ∗ P4) -∗ ∀ r, Q r)
        -∗ WP c (on (k0_part28 (F := F)) c v607 v653 v657) Q) := by
  rw [k0_part28_eq_skeleton]; unfold on k0_part28_skel
  iintro #HC HO HOut H3 H4 Hk
  extract_lets
  iapply (wp_rwait X K c 3 2 21 (by decide) (by exact rfl) (by exact rfl)) $$ HC H3 HO
  iintro H3 HO
  iapply (wp_out X c 3 (by exact rfl) (by revert c; decide) rfl rfl (by exact ⟨_, _, fun _ _ => rfl⟩)) $$ H3 HOut
  iintro H3 HOut
  iapply (wp_swait X K c 4 2 21 (by decide) (by exact rfl) (by exact rfl)) $$ HC H4 HO
  iintro H4 HO
  iapply (wp_rwait X K c 4 2 21 (by decide) (by exact rfl) (by exact rfl)) $$ HC H4 HO
  iintro H4 HO
  iapply (wp_out X c 4 (by exact rfl) (by revert c; decide) rfl rfl (by exact ⟨_, _, fun _ _ => rfl⟩)) $$ H4 HOut
  iintro H4 HOut
  iapply (wp_pure c _)
  iapply Hk $$ HO HOut H3 H4

end Parts

end Cert.Cube

end
-- ==== Proof.Body.lean ====
/-
# 01_k — `Body`: the whole body

The parts one after another, from what the launch leaves a device to what the body leaves it.
-/
module

public import proofs.«01_k».proof.Proof.Parts2

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem star3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem star6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- For every piece and step. -/
def each (Φ : Fin 6 → Fin 3 → sProp 𝕄) : sProp 𝕄 := bigSep Finset.univ fun si => bigSep Finset.univ fun k => Φ si k

omit [FloatOps F] in
theorem each_sep (Φ Ψ : Fin 6 → Fin 3 → sProp 𝕄) : each (fun si k => iprop(Φ si k ∗ Ψ si k)) = iprop(each Φ ∗ each Ψ) := by
  unfold each
  rw [← bigSep_sep']; exact bigSep_congr fun si _ => bigSep_sep' _ _ _
omit [FloatOps F] in
theorem each_mono {Φ Ψ : Fin 6 → Fin 3 → sProp 𝕄} (h : ∀ si k, Φ si k ⊢ Ψ si k) : each Φ ⊢ each Ψ :=
  bigSep_mono fun si _ => bigSep_mono fun k _ => h si k

omit [FloatOps F] in
theorem each_eq (Φ : Fin 6 → Fin 3 → sProp 𝕄) :
    each Φ = iprop((Φ 0 0 ∗ Φ 0 1 ∗ Φ 0 2) ∗ (Φ 1 0 ∗ Φ 1 1 ∗ Φ 1 2) ∗ (Φ 2 0 ∗ Φ 2 1 ∗ Φ 2 2)
      ∗ (Φ 3 0 ∗ Φ 3 1 ∗ Φ 3 2) ∗ (Φ 4 0 ∗ Φ 4 1 ∗ Φ 4 2) ∗ (Φ 5 0 ∗ Φ 5 1 ∗ Φ 5 2)) := by
  unfold each; rw [star6]; simp only [star3]

/-- Every piece crosses every axis at one step. -/
def crossing : Fin 3 × Fin 6 ≃ Fin 6 × Fin 3 where
  toFun p := (p.2, stepOf p.1 p.2)
  invFun q := (ax q.1 q.2.val, q.1)
  left_inv p := Prod.ext (ax_stepOf p.1 p.2) rfl
  right_inv q := Prod.ext rfl (stepOf_ax q.1 q.2)

omit [FloatOps F] in
theorem by_axis (Φ : Fin 3 → Fin 6 → Fin 3 → sProp 𝕄) :
    (bigSep Finset.univ fun a => bigSep Finset.univ fun si => Φ a si (stepOf a si)) = each fun si k => Φ (ax si k.val) si k := by
  unfold each
  rw [← bigSep_univ_prod (fun p : Fin 3 × Fin 6 => Φ p.1 p.2 (stepOf p.1 p.2)),
    ← bigSep_univ_prod (fun q : Fin 6 × Fin 3 => Φ (ax q.1 q.2.val) q.1 q.2), bigSep_univ_equiv crossing]
  exact bigSep_congr fun p _ => by
    show Φ p.1 p.2 (stepOf p.1 p.2) = Φ (ax p.2 (stepOf p.1 p.2).val) p.2 (stepOf p.1 p.2)
    rw [ax_stepOf]

section Body
variable (X : Dev nD → S1x512x4096.Idx → Elt F .bf16) (K : Dev nD × Option (Fin 36) → ℕ) (c : Dev nD)

/-- The own landing buffers, -/
def lands : sProp 𝕄 := each fun si k => blk c (recvM si k) 0 (nk k)

/-- handed out along each axis: -/
theorem bars_out : (lands c : sProp 𝕄) = bigSep Finset.univ fun a => barPay (nb a c) a := by
  unfold lands barPay
  rw [← by_axis (fun _ si k => (blk c (recvM si k) 0 (nk k) : sProp 𝕄))]
  exact bigSep_congr fun a _ => by rw [nb_nb]
/-- the neighbours' ones got in return. -/
theorem bars_in : (bigSep Finset.univ fun a => (barPay c a : sProp 𝕄)) = each fun si k => blk (nb (ax si k.val) c) (recvM si k) 0 (nk k) := by
  unfold barPay
  exact by_axis (fun a si k => (blk (nb a c) (recvM si k) 0 (nk k) : sProp 𝕄))

/-- What the launch leaves for a transfer. -/
def Pre (si : Fin 6) (k : Fin 3) : sProp 𝕄 :=
  iprop(dutyTok ER (sendCell si k c) 0 0 ∗ dutyTok ER (recvCell si k (nb (ax si k.val) c)) 0 0
    ∗ atPos ER (sendCell si k c) 0 ∅ 0 ∗ atPos ER (recvCell si k c) 0 ∅ 0
    ∗ cred (tallyAt (recvCell si k c) () (N si k)))

theorem rdy_of (si : Fin 6) (k : Fin 3) : iprop(Pre c si k ∗ blk (nb (ax si k.val) c) (recvM si k) 0 (nk k)) ⊢ (Rdy c si k : sProp 𝕄) := by
  unfold Pre Rdy
  iintro ⟨⟨H1, H2, H3, H4, H5⟩, H6⟩
  isplitl [H1]; · iexact H1
  isplitl [H2]; · iexact H2
  isplitl [H3]; · iexact H3
  isplitl [H4]; · iexact H4
  isplitl [H5] <;> iassumption

theorem rdys : iprop(each (Pre c) ∗ (barPay c 0 ∗ barPay c 1 ∗ barPay c 2)) ⊢ (each (Rdy c) : sProp 𝕄) := by
  have h := (star3 fun a => (barPay c a : sProp 𝕄)).symm.trans (bars_in c)
  rw [h, ← each_sep]
  exact each_mono (rdy_of c)

/-- A piece's buffer, nothing packed yet. -/
theorem fresh (si : Fin 6) : (blk c (bufM si) 0 8 : sProp 𝕄) ⊢ iprop(Pk X c si (sent si 0 c) False ∗ Pk X c si (kept si 0 c) False) := by
  iintro H
  ihave H := (blk_split c (bufM si) (cut_zero si c)) $$ H
  icases H with ⟨H1, H2⟩
  isplitl [H1]
  · iapply (Pk_none X c si); iexact H1
  · iapply (Pk_none X c si); iexact H2

/-- The own counters of a step, back at zero. -/
def Zero (si : Fin 6) (k : Fin 3) : sProp 𝕄 := iprop(semVal (sendCell si k c) 0 ∗ semVal (recvCell si k c) 0)

/-- A piece at its end. -/
def Done (si : Fin 6) : sProp 𝕄 := iprop(Got X c si 2 ∗ Kp X c si 2 2 ∗ Got X c si 1 ∗ Got X c si 0 ∗ emp)

theorem got_any (si : Fin 6) (k : Fin 3) :
    Got X c si k ⊢ iprop(blk c (recvM si k) 0 (nk k) ∗ blk c (bufM si) (sent si k c) (nk k) ∗ Zero c si k) := by
  unfold Got Zero
  iintro ⟨H1, H2, H3⟩
  isplitl [H1]
  · iapply (slab_blk c (recvM si k) _ _ _); iexact H1
  isplitl [H2] <;> iassumption

theorem done_piece (si : Fin 6) :
    Done X c si ⊢ iprop(blk c (bufM si) 0 8 ∗ (bigSep Finset.univ fun k => blk c (recvM si k) 0 (nk k)) ∗ bigSep Finset.univ fun k => Zero c si k) := by
  unfold Done
  rw [star3, star3]
  iintro ⟨H2, HK, H1, H0, -⟩
  ihave H2 := (got_any X c si 2) $$ H2
  ihave H1 := (got_any X c si 1) $$ H1
  ihave H0 := (got_any X c si 0) $$ H0
  icases H2 with ⟨R2, B2, Z2⟩
  icases H1 with ⟨R1, B1, Z1⟩
  icases H0 with ⟨R0, B0, Z0⟩
  ihave HK := (slab_blk c (bufM si) _ _ _) $$ HK
  isplitl [HK B0 B1 B2]
  · iapply (blk_join c (bufM si) (cut_zero si c))
    isplitl [B0]; · iexact B0
    iapply (blk_join c (bufM si) (cut_one si c))
    isplitl [B1]; · iexact B1
    iapply (blk_join c (bufM si) (cut_two si c))
    isplitl [B2] <;> iassumption
  isplitl [R0 R1 R2]
  · isplitl [R0]; · iexact R0
    isplitl [R1] <;> iassumption
  isplitl [Z0]; · iexact Z0
  isplitl [Z1] <;> iassumption

/-- All of them. -/
theorem done_all : (bigSep Finset.univ fun si => Done X c si) ⊢ iprop((bigSep Finset.univ fun si => blk c (bufM si) 0 8) ∗ lands c ∗ each (Zero c)) := by
  unfold lands each
  rw [← bigSep_sep', ← bigSep_sep']
  exact bigSep_mono fun si _ => done_piece X c si

/-- What the launch leaves a device. -/
def Start : sProp 𝕄 :=
  iprop((bigSep Finset.univ fun a : Fin 3 => dutyTok ER (barCell (nb a c)) 0 a) ∗ (atPos ER (barCell c) 0 ∅ 0 ∗ cred (tallyAt (barCell c) () 3)) ∗ each (Pre c))

theorem wp_bnd {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP; rw [wp_bind]

/-- `Fly`, `Kp` and nothing, in the form the waits take. -/
theorem sep_emp3 (A B : sProp 𝕄) : A ⊢ iprop(B -∗ (A ∗ B ∗ emp)) := by
  iintro HA HB
  isplitl [HA]; · iexact HA
  isplitl [HB]; · iexact HB
  iempintro

theorem sep_two (A B : sProp 𝕄) : A ⊢ iprop(B -∗ (A ∗ B)) := by
  iintro HA HB
  isplitl [HA] <;> iassumption

set_option maxHeartbeats 4000000 in
/-- The whole body: everything comes back, and the result holds what it should. -/
theorem body {Q : PUnit → sProp 𝕄} :
    Ctx X K ⊢ iprop(Start c -∗ Owes c 0 -∗ xPts X c -∗ Out X c 0 -∗ (bigSep Finset.univ fun si => blk c (bufM si) 0 8) -∗ lands c
        -∗ (Owes c 21 -∗ xPts X c -∗ Out X c 6 -∗ (bigSep Finset.univ fun si => blk c (bufM si) 0 8) -∗ lands c
          -∗ each (Zero c) -∗ semVal (barCell c) 0 -∗ Q ⟨⟩)
        -∗ WP c (on (cc0_body (F := F))) Q) := by
  rw [cc0_body_eq_skeleton]; unfold on cc0_body_skel
  rw [k0_part29_eq_skeleton]; unfold k0_part29_skel
  rw [bars_out]; unfold Start
  rw [star3, star3, star6]
  iintro #HC ⟨⟨D0, D1, D2⟩, Hb, HE⟩ HO Hx Hout ⟨W0, W1, W2, W3, W4, W5⟩ ⟨L0, L1, L2⟩ Hk
  ihave B0 := (sep_two _ _) $$ D0 L0
  ihave B1 := (sep_two _ _) $$ D1 L1
  ihave B2 := (sep_two _ _) $$ D2 L2
  icases (fresh X c 0) $$ W0 with ⟨S0, T0⟩
  icases (fresh X c 1) $$ W1 with ⟨S1, T1⟩
  icases (fresh X c 2) $$ W2 with ⟨S2, T2⟩
  icases (fresh X c 3) $$ W3 with ⟨S3, T3⟩
  icases (fresh X c 4) $$ W4 with ⟨S4, T4⟩
  icases (fresh X c 5) $$ W5 with ⟨S5, T5⟩
  iapply (wp_bnd c)
  iapply (wp_bnd c)
  iapply (part1 X K c) $$ HC B0 B1 B2 Hb HO S0 Hx
  iintro HB Hv HO S0 Hx %v2
  ihave HR := (rdys c) $$ [HE HB]
  · isplitl [HE] <;> iassumption
  icases (Entails.of_eq (each_eq _)) $$ HR with ⟨⟨R00, R01, R02⟩, ⟨R10, R11, R12⟩, ⟨R20, R21, R22⟩, ⟨R30, R31, R32⟩, ⟨R40, R41, R42⟩, ⟨R50, R51, R52⟩⟩
  iapply (wp_bnd c)
  iapply (part2 X K c v2) $$ HC HO S0 R00 S1 Hx
  iintro HO S0 S1 Hx %r
  obtain ⟨v28, v32, v47, v51, v52, u2⟩ := r
  iapply (wp_bnd c)
  iapply (part3 X K c v2 v52 u2) $$ HC HO S1 R10 S2 R20 S3 Hx
  iintro HO S1 S2 S3 Hx %v66 %v70
  iapply (wp_bnd c)
  iapply (part4 X K c v2) $$ HC HO S3 R30 S4 Hx
  iintro HO S3 S4 Hx %r
  obtain ⟨v85, v89, v104, v108, v109, u4⟩ := r
  iapply (wp_bnd c)
  iapply (part5 X K c v2 v109 u4) $$ HC HO S4 R40 S5 R50 T0 Hx
  iintro HO S4 S5 T0 Hx %v123 %v127
  iapply (wp_bnd c)
  iapply (part6 X c) $$ T0 T1 T2 T3 T4 T5 Hx
  iintro T0 T1 T2 T3 T4 T5 Hx
  ihave P0 := (sep_emp3 _ _) $$ S0 T0
  ihave P1 := (sep_emp3 _ _) $$ S1 T1
  ihave P2 := (sep_emp3 _ _) $$ S2 T2
  ihave P3 := (sep_emp3 _ _) $$ S3 T3
  ihave P4 := (sep_emp3 _ _) $$ S4 T4
  iapply (wp_bnd c)
  iapply (part7 X K c v2 (wd 1 c) v28 v32) $$ HC T5 Hx P0 HO
  iintro T5 Hx P0 HO %r
  obtain ⟨v193, v197⟩ := r
  ihave P5 := (sep_emp3 _ _) $$ S5 T5
  iapply (wp_bnd c)
  iapply (part8 X K c (wd 1 c) v28 v51 v197) $$ HC HO P0 R01 P1
  iintro HO P0 P1 %u8
  iapply (wp_bnd c)
  iapply (part9 X K c v2 (wd 2 c) v47 u8) $$ HC HO P1 R11
  iintro HO P1 %v239 %v243 %v257 %v258 %h9
  iapply (wp_bnd c)
  iapply (part10 X K c (wd 0 c) v66 v70 v258 h9) $$ HC HO P1 P2
  iintro HO P1 P2 %r
  obtain ⟨v285, v286, u10⟩ := r
  iapply (wp_bnd c)
  iapply (part11 X K c v2 (wd 0 c) v66 v89 v286 u10) $$ HC HO P2 R21 P3
  iintro HO P2 P3 %v289
  iapply (wp_bnd c)
  iapply (part12 X K c v2 (wd 1 c) v85) $$ HC HO P3 R31
  iintro HO P3 %v331 %v335 %v343 %v346 %h12
  iapply (wp_bnd c)
  iapply (part13 X K c (wd 2 c) v85 v104 v108 v343 h12) $$ HC HO P3 P4
  iintro HO P3 P4 %u13
  iapply (wp_bnd c)
  iapply (part14 X K c v2 (wd 2 c) v104) $$ HC HO P4 R41 P5
  iintro HO P4 P5 %r
  obtain ⟨v377, v381⟩ := r
  iapply (wp_bnd c)
  iapply (part15 X K c v2 (wd 0 c) v123 v127) $$ HC HO P5 R51
  iintro HO P5 %r
  obtain ⟨v423, v427, u15⟩ := r
  iapply (wp_bnd c)
  iapply (part16 X K c (wd 0 c) (wd 2 c) v123 v193 v197 u15) $$ HC HO P5 P0
  iintro HO P5 P0 %v462 %h16
  iapply (wp_bnd c)
  iapply (part17 X K c v2 (wd 2 c) v193 h16) $$ HC HO P0 R02
  iintro HO P0 %r
  obtain ⟨v469, v473⟩ := r
  iapply (wp_bnd c)
  iapply (part18 X K c v2 (wd 0 c) v239 v243) $$ HC HO P1
  iintro HO P1 %r
  obtain ⟨v515, v519⟩ := r
  iapply (wp_bnd c)
  iapply (part19 X K c (wd 0 c) (wd 1 c) v239 v285 v289) $$ HC HO P1 R12 P2
  iintro HO P1 P2 %v548 %v551 %h19
  iapply (wp_bnd c)
  iapply (part20 X K c v2 (wd 1 c) v285 v548 h19) $$ HC HO P2 R22
  iintro HO P2 %r
  obtain ⟨v561, v565⟩ := r
  iapply (wp_bnd c)
  iapply (part21 X K c v2 (wd 2 c) v331 v335) $$ HC HO P3
  iintro HO P3 %r
  obtain ⟨v607, v611, u21⟩ := r
  iapply (wp_bnd c)
  iapply (part22 X K c (wd 0 c) (wd 2 c) v331 v381 v611 u21) $$ HC HO P3 R32 P4
  iintro HO P3 P4 %v640
  iapply (wp_bnd c)
  iapply (part23 X K c v2 (wd 0 c) v377 v640) $$ HC HO P4 R42
  iintro HO P4 %v653 %v657 %v671 %h23
  iapply (wp_bnd c)
  iapply (part24 X K c (wd 1 c) v423 v427 h23) $$ HC HO P4 P5
  iintro HO P4 P5 %r
  obtain ⟨v699, u24⟩ := r
  iapply (wp_bnd c)
  iapply (part25 X K c v2 (wd 1 c) v423 v473 u24) $$ HC HO P5 R52 P0
  iintro HO P5 P0 %v703
  iapply (wp_bnd c)
  iapply (part26 X K c v469 v515 v519) $$ HC HO Hout P0 P1
  iintro HO Hout P0 P1 %u26
  iapply (wp_bnd c)
  iapply (part27 X K c v561 v565 v611) $$ HC HO Hout P2 P3
  iintro HO Hout P2 P3 %u27
  iapply (wp_bnd c)
  iapply (part28 X K c v607 v653 v657) $$ HC HO Hout P3 P4
  iintro HO Hout P3 P4 %u28
  iapply (wp_swait X K c 5 2 21 (by decide) (by exact rfl) (by exact rfl)) $$ HC P5 HO
  iintro P5 HO
  iapply (wp_rwait X K c 5 2 21 (by decide) (by exact rfl) (by exact rfl)) $$ HC P5 HO
  iintro P5 HO
  clear h9 h12 h16 h19 h23
  iapply (wp_ld2 c (bufM 5) (by revert c; decide) rfl) $$ P5
  iintro P5
  iapply (wp_ldG1 X c 5 2 0 1 rfl rfl (by decide)) $$ P5
  iintro P5
  iapply (wp_pure c _)
  iapply (wp_fin X c 5 (n := 5) rfl rfl (by exact rfl)) $$ Hout
  iintro Hout
  iapply (wp_pure c _)
  ihave HD := (done_all X c) $$ [P0 P1 P2 P3 P4 P5]
  · rw [star6]; unfold Done
    isplitl [P0]; · iexact P0
    isplitl [P1]; · iexact P1
    isplitl [P2]; · iexact P2
    isplitl [P3]; · iexact P3
    isplitl [P4] <;> iassumption
  icases HD with ⟨HW, HL, HZ⟩
  ihave HW := (Entails.of_eq (star6 _)) $$ HW
  ihave HL := (Entails.of_eq ((bars_out c).trans (star3 _))) $$ HL
  iapply Hk $$ HO Hx Hout HW HL HZ Hv

end Body

end Cert.Cube

end
-- ==== Proof.Deal.lean ====
/-
# 01_k — `Deal`: what the launch deals

The cells' invariants, the tokens and the launch credits, brought to the devices that use them.
-/
module

public import proofs.«01_k».proof.Proof.Body

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over the semaphores -/

/-- The own semaphores: sends, then receives. -/
def halves : (Fin 6 × Fin 3) ⊕ (Fin 6 × Fin 3) ≃ Fin 36 where
  toFun | .inl p => sIx p.1 p.2 | .inr p => rIx p.1 p.2
  invFun n := if n.val < 18 then .inl (piece n.val, step n.val) else .inr (piece (n.val - 18), step (n.val - 18))
  left_inv := by decide
  right_inv := by decide

omit [FloatOps F] in
theorem by_sem (Φ : Fin 36 → sProp 𝕄) : bigSep Finset.univ Φ = iprop((each fun si k => Φ (sIx si k)) ∗ each fun si k => Φ (rIx si k)) := by
  rw [bigSep_univ_equiv halves, bigSep_univ_sum]
  unfold each
  rw [← bigSep_univ_prod (fun p : Fin 6 × Fin 3 => Φ (sIx p.1 p.2)), ← bigSep_univ_prod (fun p : Fin 6 × Fin 3 => Φ (rIx p.1 p.2))]
  rfl

/-- A device's semaphores: the barrier, then the own ones. -/
def barrierFirst : Unit ⊕ Fin 36 ≃ Option (Fin 36) where
  toFun | .inl _ => none | .inr n => some n
  invFun | none => .inl () | some n => .inr n
  left_inv := fun | .inl _ => rfl | .inr _ => rfl
  right_inv := fun | none => rfl | some _ => rfl

omit [FloatOps F] in
theorem by_cell (Φ : Option (Fin 36) → sProp 𝕄) : bigSep Finset.univ Φ = iprop(Φ none ∗ bigSep Finset.univ fun n => Φ (some n)) := by
  rw [bigSep_univ_equiv barrierFirst, bigSep_univ_sum, Finset.univ_unique (α := Unit), bigSep_singleton]
  rfl

/-- Along the axes, device by device, is each device its neighbours'. -/
def turn {ι : Type} (f : ι → Fin 3) : Dev nD × ι ≃ Dev nD × ι where
  toFun p := (nb (f p.2) p.1, p.2)
  invFun p := (nb (f p.2) p.1, p.2)
  left_inv p := Prod.ext (nb_nb _ _) rfl
  right_inv p := Prod.ext (nb_nb _ _) rfl

omit [FloatOps F] in
theorem turned {ι : Type} [Fintype ι] (f : ι → Fin 3) (Φ : Dev nD → ι → sProp 𝕄) :
    (bigSep Finset.univ fun c => bigSep Finset.univ fun i => Φ c i) = bigSep Finset.univ fun c => bigSep Finset.univ fun i => Φ (nb (f i) c) i := by
  rw [← bigSep_univ_prod (fun p : Dev nD × ι => Φ p.1 p.2), ← bigSep_univ_prod (fun p : Dev nD × ι => Φ (nb (f p.2) p.1) p.2)]
  exact bigSep_univ_equiv (turn f) _

omit [FloatOps F] in
theorem turned_each (Φ : Dev nD → Fin 6 → Fin 3 → sProp 𝕄) :
    (bigSep Finset.univ fun c => each fun si k => Φ c si k) = bigSep Finset.univ fun c => each fun si k => Φ (nb (ax si k.val) c) si k := by
  have h (Ψ : Fin 6 → Fin 3 → sProp 𝕄) : each Ψ = bigSep Finset.univ fun p : Fin 6 × Fin 3 => Ψ p.1 p.2 := by
    unfold each; rw [← bigSep_univ_prod (fun p : Fin 6 × Fin 3 => Ψ p.1 p.2)]
  simp only [h]
  exact turned (fun p : Fin 6 × Fin 3 => ax p.1 p.2.val) fun c p => Φ c p.1 p.2

/-! ## The launch credit -/

/-- A device's credits for a list of dues owed along the axes. -/
def credL (c : Dev nD) : List Due → sProp 𝕄
  | [] => iprop(emp)
  | d :: l => iprop(cred (tallyAt ((c : Thread nD τ), d.sem) () d.amt) ∗ credL c l)

omit [FloatOps F] in
theorem launch_creds (c : Dev nD) (l : List Due) : (Pipeline.launchCred (owed l) c : sProp 𝕄) ⊢ credL c l := by
  induction l with
  | nil => iintro -; unfold credL; iempintro
  | cons d l ih =>
    have h : owed (d :: l) = fun d' => owed l d' + tallyAt (dueCell d' d) () d.amt := rfl
    rw [h, Pipeline.launchCred_add]
    unfold credL
    iintro ⟨H1, H2⟩
    isplitl [H2]
    · iapply (Pipeline.launchCred_tallyAt d.sem (nb d.axis) (nb d.axis) (nb_nb _) (nb_nb _) () d.amt c); iexact H2
    · iapply ih; iexact H1

omit [FloatOps F] in
theorem creds (c : Dev nD) : (Pipeline.launchCred (owed sched) c : sProp 𝕄)
    ⊢ iprop(cred (tallyAt (barCell c) () 3) ∗ each fun si k => cred (tallyAt (recvCell si k c) () (N si k))) := by
  refine (launch_creds c sched).trans ?_
  have h3 : (tallyAt (barCell c) () 3 : CellTallies nD τ sig Unit) = tallyAt (barCell c) () 1 + (tallyAt (barCell c) () 1 + tallyAt (barCell c) () 1) := by
    rw [tallyAt_add, tallyAt_add]
  have hc (a b : CellTallies nD τ sig Unit) : (cred (a + b) : sProp 𝕄) = iprop(cred a ∗ cred b) := BI.Entails.antisymm (cred_add a b).1 (cred_add a b).2
  rw [h3, hc, hc, each_eq]
  unfold sched
  simp only [credL, Due.sem, Due.amt]
  iintro ⟨B0, B1, B2, A0, A1, A2, A3, A4, A5, D0, D1, D2, D3, D4, D5, E0, E1, E2, E3, E4, E5, -⟩
  isplitl [B0 B1 B2]
  · isplitl [B0]; · iexact B0
    isplitl [B1] <;> iassumption
  have t (a b d : sProp 𝕄) : a ⊢ iprop(b -∗ d -∗ (a ∗ b ∗ d)) := by
    iintro Ha Hb Hd
    isplitl [Ha]; · iexact Ha
    isplitl [Hb] <;> iassumption
  isplitl [A0 D0 E0]; · iapply (t _ _ _) $$ A0 D0 E0
  isplitl [A1 D1 E1]; · iapply (t _ _ _) $$ A1 D1 E1
  isplitl [A2 D2 E2]; · iapply (t _ _ _) $$ A2 D2 E2
  isplitl [A3 D3 E3]; · iapply (t _ _ _) $$ A3 D3 E3
  isplitl [A4 D4 E4]; · iapply (t _ _ _) $$ A4 D4 E4
  iapply (t _ _ _) $$ A5 D5 E5

/-! ## The cells and the tokens -/

theorem kcell_injective : Function.Injective (kcell : Dev nD × Option (Fin 36) → GSem nD τ sig) := by
  rintro ⟨c, k⟩ ⟨c', k'⟩ h
  have h1 : c = c' := congrArg (fun g : GSem nD τ sig => g.1.1) h
  subst h1
  have h2 : csem k = csem k' := congrArg Prod.snd h
  match k, k', h2 with
  | none, none, _ => rfl
  | some n, some n', h2 =>
    have h3 : xS n = xS n' := SemLoc.dma.inj h2
    have h4 : 2 + n.val = 2 + n'.val := congrArg Fin.val h3
    rw [Fin.ext (Nat.add_left_cancel h4)]
def ringCells : Finset (GSem nD τ sig) := Finset.univ.map ⟨kcell, kcell_injective⟩

/-- A device's own cells' duties: the barrier's three and one for every other. -/
abbrev tokOf (cj : Dev nD × (Fin 3 ⊕ Fin 36)) : GSem nD τ sig × ℕ × Fin 3 := match cj.2 with
  | .inl a => (kcell (cj.1, none), 0, a) | .inr n => (kcell (cj.1, some n), 0, 0)
theorem tokOf_injective : Function.Injective (tokOf : Dev nD × (Fin 3 ⊕ Fin 36) → GSem nD τ sig × ℕ × Fin 3) := by
  rintro ⟨c, j⟩ ⟨c', j'⟩ h
  have hk := congrArg (fun x : GSem nD τ sig × ℕ × Fin 3 => x.1) h
  have ha := congrArg (fun x : GSem nD τ sig × ℕ × Fin 3 => x.2.2) h
  match j, j' with
  | .inl a, .inl a' =>
    have := kcell_injective hk
    rw [show c = c' from congrArg Prod.fst this, show a = a' from ha]
  | .inr n, .inr n' =>
    have := kcell_injective hk
    rw [show c = c' from congrArg Prod.fst this, show n = n' from Option.some.inj (congrArg Prod.snd this)]
  | .inl a, .inr n' => exact absurd (congrArg Prod.snd (kcell_injective hk)) (fun h => by cases h)
  | .inr n, .inl a' => exact absurd (congrArg Prod.snd (kcell_injective hk)) (fun h => by cases h)
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells; -/
def toks (c : Dev nD) : sProp 𝕄 :=
  iprop((bigSep Finset.univ fun a : Fin 3 => dutyTok ER (barCell c) 0 a)
    ∗ (each fun si k => dutyTok ER (sendCell si k c) 0 0) ∗ each fun si k => dutyTok ER (recvCell si k c) 0 0)
/-- of the duties it pays. -/
def payToks (c : Dev nD) : sProp 𝕄 :=
  iprop((bigSep Finset.univ fun a : Fin 3 => dutyTok ER (barCell (nb a c)) 0 a)
    ∗ (each fun si k => dutyTok ER (sendCell si k c) 0 0) ∗ each fun si k => dutyTok ER (recvCell si k (nb (ax si k.val) c)) 0 0)

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', turned id, turned_each fun c si k => (dutyTok ER (recvCell si k c) 0 0 : sProp 𝕄)]
  rfl

/-- A device's positions in its own cells. -/
def places (c : Dev nD) : sProp 𝕄 := bigSep Finset.univ fun k : Option (Fin 36) => atPos ER (kcell (c, k)) 0 ∅ 0

/-- What is a device's own. -/
def linear (c : Dev nD) : sProp 𝕄 := iprop(places c ∗ payToks c)

omit [FloatOps F] in
theorem start_of (c : Dev nD) :
    iprop(linear c ∗ cred (tallyAt (barCell c) () 3) ∗ each fun si k => cred (tallyAt (recvCell si k c) () (N si k))) ⊢ (Start c : sProp 𝕄) := by
  unfold linear places payToks Start
  have hp : each (Pre c) = iprop((each fun si k => (dutyTok ER (sendCell si k c) 0 0 : sProp 𝕄))
      ∗ (each fun si k => dutyTok ER (recvCell si k (nb (ax si k.val) c)) 0 0)
      ∗ (each fun si k => atPos ER (sendCell si k c) 0 ∅ 0) ∗ (each fun si k => atPos ER (recvCell si k c) 0 ∅ 0)
      ∗ each fun si k => cred (tallyAt (recvCell si k c) () (N si k))) := by
    rw [← each_sep, ← each_sep, ← each_sep, ← each_sep]; rfl
  rw [hp, by_cell, by_sem]
  iintro ⟨⟨⟨HB, HS, HR⟩, TB, TS, TR⟩, CB, CR⟩
  isplitl [TB]; · iexact TB
  isplitl [HB CB]
  · isplitl [HB] <;> iassumption
  isplitl [TS]; · iexact TS
  isplitl [TR]; · iexact TR
  isplitl [HS]; · iexact HS
  isplitl [HR] <;> iassumption

/-! ## The invariants -/

section Deal
variable (X : Dev nD → S1x512x4096.Idx → Elt F .bf16)

/-- What the launch element deals device `c`; -/
def G (c : Dev nD) : sProp 𝕄 :=
  iprop((bigSep Finset.univ fun k : Option (Fin 36) => roundState ER (Rd X) (kcell (c, k)) 0)
    ∗ (bigSep Finset.univ fun k : Option (Fin 36) => iprop(atPos ER (kcell (c, k)) 0 ∅ 0 ∗ reached ER (kcell (c, k)) 0)) ∗ toks c)
/-- what it has of it in the end. -/
def G' (c : Dev nD) : sProp 𝕄 := iprop(∃ K, records X K ∗ linear c)

theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun k : Option (Fin 36) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_univ_sum, ← by_sem fun n => (dutyTok ER (kcell (c, some n)) 0 0 : sProp 𝕄)]; rfl
  iintro HX
  imod (Rounds.fund ER (Rd X) ringCells ringToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores, as the launch theorem indexes them. -/
abbrev osem (n : Fin 36) : SemLoc sig := .dma (xS n)

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun n : Fin 36 => semVal ((c : Thread nD τ), osem n) 0 := rfl

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) := by
  unfold G
  rw [ownSems0_eq, unscopedSems0_eq]
  iintro ⟨Hos, Hus, Hst, Hat, Htok⟩
  ihave Hv := (Entails.of_eq (by_cell fun k => (semVal (kcell (c, k)) 0 : sProp 𝕄)).symm) $$ [Hos Hus]
  · isplitl [Hus] <;> iassumption
  imod (show iprop((bigSep Finset.univ fun k : Option (Fin 36) => semVal (kcell (c, k)) 0) ∗ bigSep Finset.univ fun k : Option (Fin 36) => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × Option (Fin 36) => iprop(∃ κ : ℕ, cellInv ER (Rd X) κ (kcell ck))),
    bigSep_congr (s := Finset.univ) (fun (c : Dev nD) _ => bigSep_sep' Finset.univ (fun k : Option (Fin 36) => (atPos ER (kcell (c, k)) 0 ∅ 0 : sProp 𝕄)) (fun k => reached ER (kcell (c, k)) 0)),
    bigSep_sep', ← bigSep_univ_prod (fun ck : Dev nD × Option (Fin 36) => (reached ER (kcell ck) 0 : sProp 𝕄)), toks_around]
  iintro ⟨HI, ⟨Hat, #HR⟩, Htk⟩
  ihave HK := (BI.bigSep_exists_pi Finset.univ (fun (ck : Dev nD × Option (Fin 36)) (κ : ℕ) => (cellInv ER (Rd X) κ (kcell ck) : sProp 𝕄))) $$ HI
  icases HK with ⟨%K, #HI⟩
  iapply (bigSep_with_persistent (R := records X K) (Φ := linear) fun c _ => by
    unfold G'
    iintro H
    iexists K; iexact H)
  isplitr
  · unfold records; isplitl; · iexact HI
    iexact HR
  · unfold linear places
    rw [bigSep_sep']
    isplitl [Hat]; · iexact Hat
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end Deal

end Cert.Cube

end
-- ==== Proof.Launch.lean ====
/-
# 01_k — `Launch`: the run of the eight devices

The body at the launch's data, and the whole program run from any memory.
-/
module

public import proofs.«01_k».proof.Proof.Deal
public import proofs.«01_k».proof.Proof.Gen.KernelIdeal.Points
public import Idealize.ShloMosaic.Lib.Quiescent
public import Idealize.ShloMosaic.Lib.Pipeline.Launch
public import Idealize.ShloMosaic.Lib.Pipeline.Kit
public import Idealize.ShloMosaic.Lib.Pipeline.CollectiveSegs

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- Device `c`'s block of the argument, as staged. -/
def xstg (c : Dev nD) : S1x512x4096.Idx → Elt F .bf16 :=
  (win0_0.blk (0 : Fin 1)).view.read (Elt F) ((s₀ m ρ).mem ((c : Thread nD τ).loc main_arg0))

/-! ## The scratch buffers -/

omit [FloatOps F] in
theorem pts_whole (c : Dev nD) (b : Ref sig .tc) :
    (iprop(∃ g : Buf (Elt F) ((Memref.whole b).view.loc (c : Thread nD τ)), ((Memref.whole b).view.loc (c : Thread nD τ) ↦[(Memref.whole b).view.set]{fullShare} g)) : sProp 𝕄)
      = iprop(∃ f : Buf (Elt F) ((c : Thread nD τ).loc b), ((c : Thread nD τ).loc b) ↦{fullShare} f) := by
  simp only [Memref.view_whole, View.set_whole]

/-- The working and the landing buffers. -/
def bufs (c : Dev nD) : sProp 𝕄 := bigSep Finset.univ fun si => blk c (bufM si) 0 8

omit [FloatOps F] in
theorem chunk (a b d e t : sProp 𝕄) : iprop((a ∗ b ∗ d ∗ e) ∗ t) = iprop(a ∗ b ∗ d ∗ e ∗ t) := by
  have h₁ : iprop((a ∗ b ∗ d ∗ e) ∗ t) ⊢ iprop(a ∗ b ∗ d ∗ e ∗ t) := by
    iintro ⟨⟨Ha, Hb, Hd, He⟩, Ht⟩
    isplitl [Ha]; · iexact Ha
    isplitl [Hb]; · iexact Hb
    isplitl [Hd]; · iexact Hd
    isplitl [He]; · iexact He
    iexact Ht
  have h₂ : iprop(a ∗ b ∗ d ∗ e ∗ t) ⊢ iprop((a ∗ b ∗ d ∗ e) ∗ t) := by
    iintro ⟨Ha, Hb, Hd, He, Ht⟩
    isplitl [Ha Hb Hd He]
    · isplitl [Ha]; · iexact Ha
      isplitl [Hb]; · iexact Hb
      isplitl [Hd]; · iexact Hd
      iexact He
    iexact Ht
  exact BI.Entails.antisymm h₁ h₂

/-- Buffer `b` of device `c`, holding anything. -/
def own (c : Dev nD) (b : Ref sig .tc) : sProp 𝕄 := iprop(∃ f : Buf (Elt F) ((c : Thread nD τ).loc b), ((c : Thread nD τ).loc b) ↦{fullShare} f)

/-- The names of the working buffers and of the landing buffers. -/
def bufR : Fin 6 → Ref sig .tc
  | 0 => cc0_scratch0 | 1 => cc0_scratch4 | 2 => cc0_scratch8 | 3 => cc0_scratch12 | 4 => cc0_scratch16 | 5 => cc0_scratch20
def recvR : Fin 6 → Fin 3 → Ref sig .tc
  | 0, 0 => cc0_scratch1 | 0, 1 => cc0_scratch2 | 0, 2 => cc0_scratch3
  | 1, 0 => cc0_scratch5 | 1, 1 => cc0_scratch6 | 1, 2 => cc0_scratch7
  | 2, 0 => cc0_scratch9 | 2, 1 => cc0_scratch10 | 2, 2 => cc0_scratch11
  | 3, 0 => cc0_scratch13 | 3, 1 => cc0_scratch14 | 3, 2 => cc0_scratch15
  | 4, 0 => cc0_scratch17 | 4, 1 => cc0_scratch18 | 4, 2 => cc0_scratch19
  | 5, 0 => cc0_scratch21 | 5, 1 => cc0_scratch22 | 5, 2 => cc0_scratch23

theorem own_buf (c : Dev nD) (si : Fin 6) : (blk c (bufM si) 0 8 : sProp 𝕄) = own c (bufR si) := by
  fin_cases si <;> exact (blk_whole c _).trans (pts_whole c _)

theorem own_recv (c : Dev nD) (si : Fin 6) (k : Fin 3) : (blk c (recvM si k) 0 (nk k) : sProp 𝕄) = own c (recvR si k) := by
  fin_cases si <;> fin_cases k <;> exact (blk_whole c _).trans (pts_whole c _)

theorem scratch_eq (c : Dev nD) :
    (Pipeline.scopedRest (Ix := Unit) (Name := ℕ) (U := UU) (Lvl := ℕ) (Val := Elt F) cfg0.spec c : sProp 𝕄) = iprop(bufs c ∗ lands c) := by
  refine (scopedRest0_eq c).trans ?_
  unfold bufs lands
  simp only [own_buf, own_recv]
  unfold each
  rw [← bigSep_sep', star6]
  simp only [star3]
  rw [chunk, chunk, chunk, chunk, chunk]
  simp only [own, bufR, recvR]
  rfl

/-! ## The proof data -/

/-- What device `c`'s body starts from, -/
def start (c : Dev nD) : sProp 𝕄 := iprop(∃ K, Ctx (xstg m ρ) K ∗ Start c)
def Φ₀ (c : Dev nD) : sProp 𝕄 := iprop(start m ρ c ∗ bufs c ∗ lands c)
/-- and what it leaves. -/
def Φ₁ (c : Dev nD) : sProp 𝕄 := iprop((bufs c ∗ lands c) ∗ each (Zero c) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt (xstg m ρ) c
  Φ t := match t with
    | ⟨0, _⟩ => Φ₀ m ρ c
    | ⟨_ + 1, _⟩ => Φ₁ c
  q _ := fullShare
  owed t := match t with
    | ⟨0, _⟩ => owed sched c
    | ⟨_ + 1, _⟩ => 0

/-! ## The body -/

abbrev stg (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

theorem x_set : xM.view.setOn Finset.univ = Finset.univ := (View.setOn_univ _).trans (View.set_whole _)
theorem o_set : oM.view.setOn Finset.univ = Finset.univ := (View.setOn_univ _).trans (View.set_whole _)

theorem x_in (c : Dev nD) : stg c cc0_stg0_0 (xstg m ρ c) ⊢ (xPts (xstg m ρ) c : sProp 𝕄) := by
  unfold xPts; rw [x_set]
  iintro ⟨%f, %h, H⟩
  subst h; iexact H
theorem x_out (c : Dev nD) : xPts (xstg m ρ) c ⊢ (stg c cc0_stg0_0 (xstg m ρ c) : sProp 𝕄) := by
  unfold xPts; rw [x_set]
  iintro H
  iexists _; isplitr
  swap; · iexact H
  ipureintro; rfl

/-- Nothing is said of the staged result before the first piece; -/
theorem out_in (c : Dev nD) (v) : stg c cc0_stg1_0 v ⊢ (Out (xstg m ρ) c 0 : sProp 𝕄) := by
  unfold Out; rw [o_set]
  iintro ⟨%f, -, H⟩
  iexists f; isplitr
  · ipureintro; exact fun _ h => absurd h (Nat.not_lt_zero _)
  · iexact H
/-- after the last it is all there. -/
theorem out_out (c : Dev nD) : Out (xstg m ρ) c 6 ⊢ (stg c cc0_stg1_0 (outAt (xstg m ρ) c) : sProp 𝕄) := by
  unfold Out; rw [o_set]
  iintro ⟨%g, %h, H⟩
  iexists g; isplitr
  · ipureintro
    have e : oM.view.read (Elt F) g = g := View.read_whole _ _
    funext i
    exact (congrFun e i).symm.trans (h i (pieceOf (i 0).val).isLt)
  · iexact H

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAt (xstg m ρ) c))

theorem before_x (c : Dev nD) (d) : (dats m ρ 0 c).before (0 : Fin 2) t0_0 d = xstg m ρ c := by
  unfold Dat.before; rw [if_pos (fetch0_0 t0_0)]; rfl

theorem owes_in (c : Dev nD) : (dats m ρ 0 c).owesAt () t0_0.castSucc ⊢ (Owes c 0 : sProp 𝕄) := by
  unfold Dat.owesAt Pipeline.owesWithin Owes
  iintro ⟨%W, -, H⟩
  iexists W; iexact H
theorem owes_out (c : Dev nD) : Owes c 21 ⊢ ((dats m ρ 0 c).owesAt () t0_0.succ : sProp 𝕄) := by
  unfold Dat.owesAt Pipeline.owesWithin Owes
  iintro ⟨%W, H⟩
  iexists W; isplitr
  · ipureintro; exact fun _ _ => Or.inl trivial
  · iexact H

theorem sound_body (c : Dev nD) : bodyPre m ρ c ⊢ WP c (on (cc0_body (F := F))) (fun _ => bodyPost m ρ c) := by
  unfold bodyPre Φ₀ start
  simp only [before_x]
  iintro ⟨⟨⟨%K, #HC, HS⟩, HB, HL⟩, HO, ⟨%d0, Hx⟩, ⟨%d1, Hout⟩⟩
  ihave HO := (owes_in m ρ c) $$ HO
  ihave Hx := (x_in m ρ c) $$ Hx
  ihave Hout := (out_in m ρ c _) $$ Hout
  unfold bufs
  iapply (body (xstg m ρ) K c) $$ HC HS HO Hx Hout HB HL
  iintro HO Hx Hout HB HL HZ Hv
  unfold bodyPost Φ₁ bufs
  isplitl [HB HL HZ Hv]
  · isplitl [HB HL]
    · isplitl [HB] <;> iassumption
    isplitl [HZ] <;> iassumption
  isplitl [HO]; · iapply (owes_out m ρ c); iexact HO
  isplitl [Hx]; · iapply (x_out m ρ c); iexact Hx
  iapply (out_out m ρ c); iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_stg (c : Dev nD) (b : Ref sig .tc) (v : b.ty.Contents (Elt F)) :
    (owns (Ix := Unit) (Name := ℕ) (U := UU) (Lvl := ℕ) (c : Thread nD τ) (Memref.whole b) fullShare v : sProp 𝕄) = stg c b v :=
  owns_whole_eq (c : Thread nD τ) b fullShare v

set_option maxRecDepth 4000 in
/-- The body on device `c`, as the launch asks for it. -/
theorem body_obligation (c : Dev nD) : BodyObligation (dats (F := F) m ρ 0 c) (defs₀ (F := F)) 𝒱₀ () Set.univ := fun t => by
  rw [fin_N0 t]
  rw [bigSep_W, bigSep_W]
  simp only [owns_stg]
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owed sched) c ∗ prngReg c (ρ c) ∗ G' (xstg m ρ) c)
      ⊢ |={Set.univ}=> iprop(start m ρ c ∗ emp) := by
  iintro ⟨-, #Hlev, Hcr, -, HG⟩
  ihave Hc := (creds (F := F) c) $$ Hcr
  unfold start G' Ctx
  icases HG with ⟨%K, #HR, Hlin⟩
  imodintro
  isplitl
  · iexists K
    isplitr
    · isplitr
      · iexact HR
      · iexact Hlev
    iapply (start_of c)
    isplitl [Hlin] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

omit [FloatOps F] in
theorem zeros_eq (c : Dev nD) : (each (Zero c) : sProp 𝕄) ⊢ iprop((each fun si k => semVal (sendCell si k c) 0) ∗ each fun si k => semVal (recvCell si k c) 0) :=
  Entails.of_eq (each_sep (fun si k => semVal (sendCell si k c) 0) fun si k => (semVal (recvCell si k c) 0 : sProp 𝕄))

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems0_eq, unscopedSems0_eq, by_sem]
  unfold Φ₁
  iintro ⟨Hr, HZ, HzB⟩
  ihave HZ := (zeros_eq c) $$ HZ
  isplitl [HzB]; · iexact HzB
  isplitl [HZ] <;> iassumption

/-- The staging cells are below everything owed. -/
theorem waits (c : Dev nD) : (levAts L lv : sProp 𝕄) ⊢ Pipeline.cellsWaits cfgs (dats m ρ) () 0 c :=
  Pipeline.cellsWaits_intro cfgs (dats m ρ) () 0 c fun w s t => by
    have h (l : List Due) (hl : ∀ d ∈ l, 0 < d.level) : (levAts L lv : sProp 𝕄) ⊢ MayWait (c : Thread nD τ) (.dma ((cfg0.win w).sem s)) () (owed l c) :=
      mayWait_owed c _ l (by rw [show semLv (.dma ((cfg0.win w).sem s)) = 0 by revert w s; decide]; exact hl)
    rcases t with ⟨_ | _, ht⟩
    · exact h sched (by decide)
    · exact h [] (by decide)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: the eight devices' program ends whatever the schedule, each
    device's result array at the computed contents, its argument as it was, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed sched) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_ring (xstg m ρ)) $$ HX with HG
      imodintro
      isplitl [HP] <;> iassumption)
    (hglob := glob (xstg m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Cube

end
-- ==== Proof.Value.lean ====
/-
# 01_k — `Value`: what the program computes, in exact arithmetic

The three exchanges of a piece visit every device once, so what a device keeps of a piece is the sum over the eight
devices of its own block of columns; the reference's result at that block is the same sum.
-/
module

public import proofs.«01_k».proof.Proof.Launch
public import proofs.«01_k».proof.Proof.Gen.ReferenceIdeal
public import Idealize.ShloMosaic.Lib.StableHlo.Run
public import Idealize.ShloMosaic.Lib.Pipeline.ValueKit
public import Idealize.ShloMosaic.Lib.Pointwise.Reduce
public import Idealize.ShloMosaic.Lib.Layout

@[expose] public section

noncomputable section

namespace Cert.Cube

open Cert.KernelIdeal Cert.KernelIdeal.Gen

open Idealize.ShloMosaic
open Idealize.ShloMosaic.TcCoe
open Idealize.SL.Sem
open Idealize.ShloMosaic.Pipeline (Dat Cfg Window)

/-! ## The devices that a piece gathers from -/

/-- Device `c`, then the one across the first axis, then these two's across the second, then these four's across the
    third. -/
def orbit (si : Fin 6) (c : Dev nD) : Fin 8 → Dev nD :=
  let n k := nb (ax si k)
  ![c, n 0 c, n 1 c, n 0 (n 1 c), n 2 c, n 0 (n 2 c), n 1 (n 2 c), n 0 (n 1 (n 2 c))]

theorem orbit_bij : ∀ (si : Fin 6) (c : Dev nD), Function.Bijective (orbit si c) := by decide +kernel

variable (X : Dev nD → S1x512x4096.Idx → Elt Ideal .bf16)

/-- What a device's live slots hold after the three exchanges is the sum over the devices. -/
theorem Pc_sum (si : Fin 6) (c : Dev nD) (s r l : ℕ) :
    (Pc X si 3 c s r l : EReal) = ∑ d : Dev nD, (xAt X d (row0 si + r) (512 * pos si s + l) : EReal) := by
  rw [← (orbit_bij si c).sum_comp fun d => (xAt X d (row0 si + r) (512 * pos si s + l) : EReal), Fin.sum_univ_eight]
  simp only [Pc, Ideal.addf_def, orbit, Matrix.cons_val]
  simp only [add_assoc]

/-- Device `c`'s result: the sum over the devices of block `c` of the columns. -/
theorem outAt_sum (c : Dev nD) (i : S512x512.Idx) :
    (outAt X c i : EReal) = ∑ d : Dev nD, (X d (ix3 0 (i 0) ⟨512 * c.val + (i 1).val, by
      have h1 : c.val < 8 := c.isLt
      have h2 : (i 1).val < 512 := (i 1).isLt
      omega⟩) : EReal) := by
  have hi : (i 0).val < 512 := (i 0).isLt
  have h1 : c.val < 8 := c.isLt
  have h2 : (i 1).val < 512 := (i 1).isLt
  have hp := (pieceOf_iff (pieceOf (i 0).val) hi).mp rfl
  unfold outAt
  rw [Pc_sum, pos_kept, Nat.add_sub_cancel' hp.1]
  refine Finset.sum_congr rfl fun d _ => congrArg (X d) (funext fun a => Fin.ext ?_)
  fin_cases a
  · rfl
  · exact Nat.mod_eq_of_lt hi
  · exact Nat.mod_eq_of_lt (by omega : 512 * c.val + (i 1).val < 4096)

/-! ## The program's arrays -/

section
variable {F : FTy → Type} [FloatOps F]
variable (m : (ℓ : Loc nD τ sig) → Buf (Elt F) ℓ) (ρ : Dev nD → PrngReg)

/-- The one point's block of the argument is the argument. -/
theorem xstg_eq (c : Dev nD) : xstg m ρ c = m ((c : Thread nD τ).loc main_arg0) := by
  funext i
  unfold xstg
  rw [View.read_apply]
  exact congrArg (m ((c : Thread nD τ).loc main_arg0)) (funext fun a => Fin.ext (by fin_cases a <;> simp [Pipeline.Window.blk] <;> rfl))

/-- The result array ends at the computed contents. -/
theorem finalA_v1 (c : Dev nD) : finalA m ρ c (1 : Fin 2) = outAt (xstg m ρ) c :=
  (dats m ρ 0 c).arrAt_eq_of_after_last (1 : Fin 2) (⟨0, by decide⟩ : Fin grid0.N) (by decide +kernel : win0_1.WholeAt (⟨0, by decide⟩ : Fin grid0.N)) (outAt (xstg m ρ) c) fun j => rfl
end

end Cert.Cube

/-! ## The reference -/

namespace Cert.Whole

open Cert.ReferenceIdeal Cert.ReferenceIdeal.Gen
open Idealize.ShloMosaic Idealize.ShloMosaic.TcCoe Idealize.ShloMosaic.StableHlo Idealize.SL.Sem

/-- The reference's result from its argument: the sum over the leading axis, from zero. -/
abbrev total (x : FVec Ideal S8x512x4096 .bf16) : FVec Ideal S512x4096 .bf16 :=
  truncf .bf16 (Host.reduceAdd (extf .f32 x bitsLt_bf16_f32) (constant S_ .f32 0x00000000#32) reducesTo_S8x512x4096_S512x4096_d0 h_S_) bitsLt_bf16_f32

theorem total_sum (x : FVec Ideal S8x512x4096 .bf16) (i : S512x4096.Idx) :
    (total x i : EReal) = ∑ k : Fin 8, (x (ix3 k (i 0) (i 1)) : EReal) := by
  show Ideal.hostReduceAdd reducesTo_S8x512x4096_S512x4096_d0 (fun j => (x j : EReal)) (FloatOps.ofBits (F := Ideal) .f32 0x00000000#32) i = _
  rw [Ideal.hostReduceAdd_r3_a0]
  have h0 : (FloatOps.ofBits (F := Ideal) .f32 0x00000000#32 : EReal) = 0 := by simp
  rw [h0, zero_add]
  rfl

/-- The reference's operations, in order. -/
abbrev lines {F : FTy → Type} [FloatOps F] : List (HloOp τ sig (Elt F)) :=
  [ unary main_arg0 main_v0 ((extf .f32 · bitsLt_bf16_f32) : (⟨S8x512x4096, .bf16⟩ : BufTy).Contents (Elt F) → (⟨S8x512x4096, .f32⟩ : BufTy).Contents (Elt F)),
    nullary main_cst (constant S_ .f32 0x00000000#32),
    binary main_v0 main_cst main_v1 ((fun x v => Host.reduceAdd x v reducesTo_S8x512x4096_S512x4096_d0 h_S_) : (⟨S8x512x4096, .f32⟩ : BufTy).Contents (Elt F) → (⟨S_, .f32⟩ : BufTy).Contents (Elt F) → (⟨S512x4096, .f32⟩ : BufTy).Contents (Elt F)),
    unary main_v1 main_v2 ((truncf .bf16 · bitsLt_bf16_f32) : (⟨S512x4096, .f32⟩ : BufTy).Contents (Elt F) → (⟨S512x4096, .bf16⟩ : BufTy).Contents (Elt F)) ]

theorem main_lines {F : FTy → Type} [FloatOps F] (c : Dev nD) : main (F := F) c = seq lines := rfl

theorem lines_v2 (V : Valuation τ sig (Elt Ideal)) : after (lines (F := Ideal)) V (main_v2 : DevRef τ sig) = total (V (main_arg0 : DevRef τ sig)) := by
  after_results

theorem lines_arg0 (V : Valuation τ sig (Elt Ideal)) : after (lines (F := Ideal)) V (main_arg0 : DevRef τ sig) = V (main_arg0 : DevRef τ sig) := by
  after_results

/-- The reference ends with the sum in its result and its argument as it was. -/
theorem run_main (m : (ℓ : Loc nD τ sig) → Buf (Elt Ideal) ℓ) (ρ : Dev nD → PrngReg) :
    θ_run defs (onTc (τ := τ) (main (F := Ideal))) ⟨m, fun _ => 0, ρ⟩ fun r =>
      ∀ c : Dev nD, r.2.mem ((c.tc : Thread nD τ).loc main_v2) = total (m ((c.tc : Thread nD τ).loc main_arg0))
        ∧ r.2.mem ((c.tc : Thread nD τ).loc main_arg0) = m ((c.tc : Thread nD τ).loc main_arg0) :=
  (θ_run defs _ _).mono (fun _ h c => ⟨(h c main_v2).trans (lines_v2 _), (h c main_arg0).trans (lines_arg0 _)⟩)
    (run_seq (by decide) (by decide) defs main (fun _ => lines (F := Ideal)) main_lines
      (fun _ => ⟨unary_bufs_sub .., nullary_bufs_sub .., binary_bufs_sub .., unary_bufs_sub ..⟩) m ρ)

end Cert.Whole

namespace Cert.Cube

open Idealize.ShloMosaic

/-- The blocks meet: where device `d` holds block `d` of the leading axis, device `c` ends with block `c` of the
    reference's columns. -/
theorem outAt_block (v : Cert.ReferenceIdeal.S8x512x4096.Idx → Elt Ideal .bf16) (c : Dev Cert.KernelIdeal.nD)
    (h : Layout.Tiles ⟨3, ![1, 512, 4096]⟩ ⟨3, ![8, 512, 4096]⟩ 0 8) (h' : Layout.Tiles ⟨2, ![512, 512]⟩ ⟨2, ![512, 4096]⟩ 1 8) :
    outAt (fun d => Layout.block ⟨3, ![1, 512, 4096]⟩ ⟨3, ![8, 512, 4096]⟩ 0 8 d v h) c
      = Layout.block ⟨2, ![512, 512]⟩ ⟨2, ![512, 4096]⟩ 1 8 c (Cert.Whole.total v) h' := by
  funext i
  rw [Layout.block_apply]
  refine (outAt_sum _ c i).trans (Eq.trans ?_ (Cert.Whole.total_sum v _).symm)
  refine Finset.sum_congr rfl fun d _ => ?_
  rw [Layout.block_apply]
  refine congrArg v (funext fun a => Fin.ext ?_)
  rw [Layout.Tiles.idx_val]
  have hc := h'.idx_val c i
  fin_cases a
  · show d.val * 1 + 0 = d.val
    omega
  · exact (hc 0).symm
  · refine Eq.trans ?_ (hc 1).symm
    show 512 * c.val + (i 1).val = c.val * 512 + (i 1).val
    omega

end Cert.Cube

end
-- ==== Proof.lean ====
/-
# 01_k — the certificate

The kernel sums eight devices' blocks and leaves each device one block of columns of the sum. `Slab`, `Plan`, `Steps`:
what every buffer and semaphore holds when. `Parts`, `Parts2`, `Body`: the kernel's body on one device. `Deal`, `Launch`:
the eight devices from any memory. `Value`: the sum itself, and the reference's. Here: the five claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel's program read at any float values ends with its argument kept and every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c (0 : Fin 2)).trans (Cert.Cube.finalA_x m ρ c), h.2⟩)
    (Cert.Cube.run_main (F := F) m ρ)

/-- The two printings of the kernel are one program. -/
theorem bodies_eq {F : FTy → Type} [FloatOps F] : Cert.Kernel.defs₀ (F := F) = Cert.KernelIdeal.defs₀ (F := F) := by
  refine congrArg (Defs.onTc (nD := Cert.KernelIdeal.nD) (τ := Cert.KernelIdeal.τ) (sig := Cert.KernelIdeal.sig) (Val := Elt F) (Λ := Cert.KernelIdeal.Λ₀))
    (funext fun l => funext fun a => ?_)
  match l, a with
  | ⟨0, _⟩, (_, _) => rfl

theorem defs_eq {F : FTy → Type} [FloatOps F] : Cert.Kernel.defs (F := F) = Cert.KernelIdeal.defs (F := F) :=
  congrArg (Pipeline.defs (Cert.KernelIdeal.pcfgs (F := F))) bodies_eq

/-- At the machine's floats; -/
theorem frame_kernel : Cert.quiescent_Kernel := fun m ρ _ =>
  (congrArg (fun D => θ_run D (onTc (τ := Cert.KernelIdeal.τ) (Cert.KernelIdeal.main (F := Bits))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0)
    (defs_eq (F := Bits))).mpr (frame (F := Bits) m ρ)

/-- in exact arithmetic. -/
theorem frame_kernelIdeal : Cert.quiescent_KernelIdeal := fun m ρ _ => frame (F := Ideal) m ρ

/-- So does the reference, which has no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.Whole.run_main m ρ)

/-- No operation of the kernel is replaced. -/
theorem preserves : Cert.preserves_Kernel_KernelIdeal := trivial

/-- In exact arithmetic every device ends with its block of the reference's result. -/
theorem algebraic : Cert.algebraic_KernelIdeal_ReferenceIdeal := by
  intro m ρ m' ρ' _ hx
  refine ⟨Cert.Whole.total (m' ((((0 : Dev Cert.ReferenceIdeal.nD)).tc : Thread _ Cert.ReferenceIdeal.τ).loc Cert.ReferenceIdeal.main_arg0)), ?_, ?_⟩
  · refine (θ_run Cert.KernelIdeal.defs _ _).mono (fun _ h c => ⟨(h.1 c (1 : Fin 2)).trans ?_, (h.1 c (0 : Fin 2)).trans (Cert.Cube.finalA_x m ρ c)⟩)
      (Cert.Cube.run_main (F := Ideal) m ρ)
    refine (Cert.Cube.finalA_v1 m ρ c).trans ?_
    rw [show Cert.Cube.xstg m ρ = fun d => _ from funext fun d => (Cert.Cube.xstg_eq m ρ d).trans (hx d)]
    exact Cert.Cube.outAt_block _ c _ _
  · exact (θ_run Cert.ReferenceIdeal.defs _ _).mono (fun _ h => h 0) (Cert.Whole.run_main m' ρ')

theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
